-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_of_setup [hPre_tables_of_setup : Cert.Pre_tables_of_setup.Facts] (m : (ℓ : Loc Cert.KernelIdeal.nD Cert.KernelIdeal.τ Cert.KernelIdeal.sig) → Buf (Elt Ideal) ℓ) : Prop :=
  ∀ c : Dev Cert.KernelIdeal.nD,
    (Cert.Pre_tables_of_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_tables_of_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_tables_of_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_tables_of_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_tables_of_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_tables_of_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_tables_of_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_of_setup [hPre_tables_of_setup : Cert.Pre_tables_of_setup.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_of_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_tables_of_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_tables_of_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_tables_of_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_tables_of_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_tables_of_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_tables_of_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tables_of_setup [hKernelIdeal : Cert.KernelIdeal.Facts] [hPre_tables_of_setup : Cert.Pre_tables_of_setup.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_of_setup m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tables_of_setup [hReferenceIdeal : Cert.ReferenceIdeal.Facts] [hPre_tables_of_setup : Cert.Pre_tables_of_setup.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_of_setup m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tables_of_setup [hKernelIdeal : Cert.KernelIdeal.Facts] [hReferenceIdeal : Cert.ReferenceIdeal.Facts] [hPre_tables_of_setup : Cert.Pre_tables_of_setup.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_of_setup m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tables_of_setup : Cert.Pre_tables_of_setup.Facts),
    quiescent_Kernel (hKernel := hKernel)
    ∧ quiescent_KernelIdeal (hKernelIdeal := hKernelIdeal)
    ∧ quiescent_KernelIdeal_pre_tables_of_setup (hKernelIdeal := hKernelIdeal) (hPre_tables_of_setup := hPre_tables_of_setup)
    ∧ quiescent_ReferenceIdeal (hReferenceIdeal := hReferenceIdeal)
    ∧ quiescent_ReferenceIdeal_pre_tables_of_setup (hReferenceIdeal := hReferenceIdeal) (hPre_tables_of_setup := hPre_tables_of_setup)
    ∧ preserves_Kernel_KernelIdeal
    ∧ algebraic_KernelIdeal_ReferenceIdeal_pre_tables_of_setup (hKernelIdeal := hKernelIdeal) (hReferenceIdeal := hReferenceIdeal) (hPre_tables_of_setup := hPre_tables_of_setup)
-- ==== Pre_tables_of_setup.lean ====
abbrev S4096x256x9 : Shape := ⟨3, ![4096, 256, 9]⟩
abbrev S80 : Shape := ⟨1, ![80]⟩
abbrev S_ : Shape := ⟨0, ![]⟩
abbrev S80x1 : Shape := ⟨2, ![80, 1]⟩

class Facts : Prop where
  bcast_S_S4096x256x9 : S_.BroadcastsInDim S4096x256x9 (![] : Fin 0 → Fin S4096x256x9.rank)
  bcast_S_S80 : S_.BroadcastsInDim S80 (![] : Fin 0 → Fin S80.rank)
  bcast_S80_S80x1_0 : S80.BroadcastsInDim S80x1 (![0] : Fin 1 → Fin S80x1.rank)
  gather_S80_S80x1_S80_n_0_n_n_0_1_1_wf : GatherDims.WF S80 S80x1 S80 [] [0] [] [0] [] 1 ![1]

variable [Facts]

def gather_S80_S80x1_S80_n_0_n_n_0_1_1 : GatherDims S80 S80x1 S80 where
  offsetDims := []
  collapsedSliceDims := [0]
  operandBatchingDims := []
  startIndicesBatchingDims := []
  startIndexMap := [0]
  indexVectorDim := 1
  sliceSizes := ![1]
  wf := gather_S80_S80x1_S80_n_0_n_n_0_1_1_wf

noncomputable abbrev lit0 : Fin 80 → BitVec 32 := fun
  | 0 => 8#32 | 1 => 0#32 | 2 => 7#32 | 3 => 6#32 | 4 => 2#32 | 5 => 5#32 | 6 => 3#32 | 7 => 4#32
  | 8 => 5#32 | 9 => 3#32 | 10 => 8#32 | 11 => 0#32 | 12 => 7#32 | 13 => 1#32 | 14 => 6#32 | 15 => 5#32
  | 16 => 3#32 | 17 => 4#32 | 18 => 5#32 | 19 => 3#32 | 20 => 6#32 | 21 => 2#32 | 22 => 8#32 | 23 => 0#32
  | 24 => 7#32 | 25 => 1#32 | 26 => 6#32 | 27 => 2#32 | 28 => 5#32 | 29 => 4#32 | 30 => 5#32 | 31 => 3#32
  | 32 => 6#32 | 33 => 2#32 | 34 => 7#32 | 35 => 1#32 | 36 => 8#32 | 37 => 0#32 | 38 => 7#32 | 39 => 1#32
  | 40 => 6#32 | 41 => 2#32 | 42 => 5#32 | 43 => 3#32 | 44 => 8#32 | 45 => 0#32 | 46 => 7#32 | 47 => 1#32
  | 48 => 6#32 | 49 => 2#32 | 50 => 3#32 | 51 => 4#32 | 52 => 5#32 | 53 => 3#32 | 54 => 6#32 | 55 => 2#32
  | 56 => 7#32 | 57 => 1#32 | 58 => 8#32 | 59 => 0#32 | 60 => 7#32 | 61 => 1#32 | 62 => 2#32 | 63 => 5#32
  | 64 => 3#32 | 65 => 4#32 | 66 => 5#32 | 67 => 3#32 | 68 => 6#32 | 69 => 2#32 | 70 => 8#32 | 71 => 0#32
  | 72 => 1#32 | 73 => 6#32 | 74 => 2#32 | 75 => 5#32 | 76 => 3#32 | 77 => 4#32 | 78 => 5#32 | 79 => 3#32
  | _ => 0#32

noncomputable abbrev lit1 : Fin 80 → BitVec 32 := fun
  | 0 => 5#32 | 1 => 3#32 | 2 => 4#32 | 3 => 5#32 | 4 => 3#32 | 5 => 6#32 | 6 => 2#32 | 7 => 7#32
  | 8 => 8#32 | 9 => 0#32 | 10 => 6#32 | 11 => 2#32 | 12 => 5#32 | 13 => 3#32 | 14 => 4#32 | 15 => 5#32
  | 16 => 3#32 | 17 => 6#32 | 18 => 7#32 | 19 => 1#32 | 20 => 8#32 | 21 => 0#32 | 22 => 7#32 | 23 => 1#32
  | 24 => 6#32 | 25 => 2#32 | 26 => 5#32 | 27 => 3#32 | 28 => 4#32 | 29 => 5#32 | 30 => 6#32 | 31 => 2#32
  | 32 => 7#32 | 33 => 1#32 | 34 => 8#32 | 35 => 0#32 | 36 => 0#32 | 37 => 8#32 | 38 => 1#32 | 39 => 7#32
  | 40 => 2#32 | 41 => 6#32 | 42 => 3#32 | 43 => 5#32 | 44 => 1#32 | 45 => 7#32 | 46 => 2#32 | 47 => 6#32
  | 48 => 3#32 | 49 => 5#32 | 50 => 4#32 | 51 => 3#32 | 52 => 2#32 | 53 => 6#32 | 54 => 1#32 | 55 => 7#32
  | 56 => 0#32 | 57 => 8#32 | 58 => 2#32 | 59 => 6#32 | 60 => 3#32 | 61 => 5#32 | 62 => 4#32 | 63 => 3#32
  | 64 => 5#32 | 65 => 2#32 | 66 => 1#32 | 67 => 7#32 | 68 => 0#32 | 69 => 8#32 | 70 => 3#32 | 71 => 5#32
  | 72 => 4#32 | 73 => 3#32 | 74 => 5#32 | 75 => 2#32 | 76 => 6#32 | 77 => 1#32 | 78 => 0#32 | 79 => 8#32
  | _ => 0#32

noncomputable abbrev lit2 : Fin 80 → BitVec 32 := fun
  | 0 => 0#32 | 1 => 0#32 | 2 => 0#32 | 3 => 0#32 | 4 => 0#32 | 5 => 0#32 | 6 => 0#32 | 7 => 0#32
  | 8 => 0#32 | 9 => 0#32 | 10 => 1#32 | 11 => 1#32 | 12 => 1#32 | 13 => 1#32 | 14 => 1#32 | 15 => 1#32
  | 16 => 1#32 | 17 => 1#32 | 18 => 1#32 | 19 => 1#32 | 20 => 1#32 | 21 => 1#32 | 22 => 2#32 | 23 => 2#32
  | 24 => 2#32 | 25 => 2#32 | 26 => 2#32 | 27 => 2#32 | 28 => 2#32 | 29 => 2#32 | 30 => 2#32 | 31 => 2#32
  | 32 => 2#32 | 33 => 2#32 | 34 => 2#32 | 35 => 2#32 | 36 => 3#32 | 37 => 3#32 | 38 => 3#32 | 39 => 3#32
  | 40 => 3#32 | 41 => 3#32 | 42 => 3#32 | 43 => 3#32 | 44 => 4#32 | 45 => 4#32 | 46 => 4#32 | 47 => 4#32
  | 48 => 4#32 | 49 => 4#32 | 50 => 4#32 | 51 => 4#32 | 52 => 4#32 | 53 => 4#32 | 54 => 4#32 | 55 => 4#32
  | 56 => 4#32 | 57 => 4#32 | 58 => 5#32 | 59 => 5#32 | 60 => 5#32 | 61 => 5#32 | 62 => 5#32 | 63 => 5#32
  | 64 => 5#32 | 65 => 5#32 | 66 => 5#32 | 67 => 5#32 | 68 => 5#32 | 69 => 5#32 | 70 => 6#32 | 71 => 6#32
  | 72 => 6#32 | 73 => 6#32 | 74 => 6#32 | 75 => 6#32 | 76 => 6#32 | 77 => 6#32 | 78 => 6#32 | 79 => 6#32
  | _ => 0#32

noncomputable abbrev lit3 : Fin 80 → BitVec 32 := fun
  | 0 => 0#32 | 1 => 0#32 | 2 => 2#32 | 3 => 3#32 | 4 => 3#32 | 5 => 5#32 | 6 => 5#32 | 7 => 7#32
  | 8 => 8#32 | 9 => 8#32 | 10 => 10#32 | 11 => 10#32 | 12 => 12#32 | 13 => 12#32 | 14 => 14#32 | 15 => 15#32
  | 16 => 15#32 | 17 => 17#32 | 18 => 18#32 | 19 => 18#32 | 20 => 20#32 | 21 => 20#32 | 22 => 22#32 | 23 => 22#32
  | 24 => 24#32 | 25 => 24#32 | 26 => 26#32 | 27 => 26#32 | 28 => 28#32 | 29 => 29#32 | 30 => 30#32 | 31 => 30#32
  | 32 => 32#32 | 33 => 32#32 | 34 => 34#32 | 35 => 34#32 | 36 => 36#32 | 37 => 36#32 | 38 => 38#32 | 39 => 38#32
  | 40 => 40#32 | 41 => 40#32 | 42 => 42#32 | 43 => 42#32 | 44 => 22#32 | 45 => 22#32 | 46 => 24#32 | 47 => 24#32
  | 48 => 26#32 | 49 => 26#32 | 50 => 28#32 | 51 => 29#32 | 52 => 30#32 | 53 => 30#32 | 54 => 32#32 | 55 => 32#32
  | 56 => 34#32 | 57 => 34#32 | 58 => 10#32 | 59 => 10#32 | 60 => 12#32 | 61 => 12#32 | 62 => 14#32 | 63 => 15#32
  | 64 => 15#32 | 65 => 17#32 | 66 => 18#32 | 67 => 18#32 | 68 => 20#32 | 69 => 20#32 | 70 => 0#32 | 71 => 0#32
  | 72 => 2#32 | 73 => 3#32 | 74 => 3#32 | 75 => 5#32 | 76 => 5#32 | 77 => 7#32 | 78 => 8#32 | 79 => 8#32
  | _ => 0#32

noncomputable abbrev lit4 : Fin 80 → BitVec 1 := fun
  | 0 => 1#1 | 1 => 1#1 | 2 => 0#1 | 3 => 0#1 | 4 => 1#1 | 5 => 0#1 | 6 => 1#1 | 7 => 0#1
  | 8 => 1#1 | 9 => 1#1 | 10 => 0#1 | 11 => 0#1 | 12 => 1#1 | 13 => 1#1 | 14 => 0#1 | 15 => 0#1
  | 16 => 1#1 | 17 => 0#1 | 18 => 1#1 | 19 => 1#1 | 20 => 0#1 | 21 => 0#1 | 22 => 1#1 | 23 => 1#1
  | 24 => 0#1 | 25 => 0#1 | 26 => 1#1 | 27 => 1#1 | 28 => 0#1 | 29 => 0#1 | 30 => 1#1 | 31 => 1#1
  | 32 => 0#1 | 33 => 0#1 | 34 => 1#1 | 35 => 1#1 | 36 => 0#1 | 37 => 1#1 | 38 => 1#1 | 39 => 0#1
  | 40 => 0#1 | 41 => 1#1 | 42 => 1#1 | 43 => 0#1 | 44 => 1#1 | 45 => 0#1 | 46 => 0#1 | 47 => 1#1
  | 48 => 1#1 | 49 => 0#1 | 50 => 1#1 | 51 => 1#1 | 52 => 0#1 | 53 => 1#1 | 54 => 1#1 | 55 => 0#1
  | 56 => 0#1 | 57 => 1#1 | 58 => 0#1 | 59 => 1#1 | 60 => 1#1 | 61 => 0#1 | 62 => 1#1 | 63 => 1#1
  | 64 => 1#1 | 65 => 1#1 | 66 => 0#1 | 67 => 1#1 | 68 => 1#1 | 69 => 0#1 | 70 => 1#1 | 71 => 0#1
  | 72 => 1#1 | 73 => 1#1 | 74 => 1#1 | 75 => 1#1 | 76 => 1#1 | 77 => 1#1 | 78 => 0#1 | 79 => 1#1
  | _ => 0#1

def fn_where {F : FTy → Type} [FloatOps F] (arg0 : IVec S80 1) (arg1 : FVec F S80 .f32) (arg2 : FVec F S80 .f32) : FVec F S80 .f32 :=
  let v0 : FVec F S80 .f32 := select arg0 arg1 arg2
  v0

def fn_part1 {F : FTy → Type} [FloatOps F] (main_arg5 : FVec F S80 .f32) (main_c_2 : IVec S80 32) (main_c_3 : IVec S80 1) (main_c_4 : IVec S80 1) (main_c_5 : IVec S80 1) (main_v0 : FVec F S80 .f32) (main_v3 : IVec S4096x256x9 1) (main_v6 : IVec S4096x256x9 1) (main_v7 : IVec S80 1) (main_v8 : IVec S80 1) (main_v9 : IVec S80 1) (main_v11 : IVec S80 1) (main_v12 : IVec S80 32) : IVec S4096x256x9 1 × IVec S4096x256x9 1 × IVec S80 1 × IVec S80 1 × IVec S80 1 × IVec S80 1 × IVec S80 1 :=
  let main_v13 : IVec S80 32 := addi main_c_2 main_v12
  let main_v14 : IVec S80 32 := select main_c_3 main_v13 main_c_2
  let main_v15 : IVec S80x1 32 := broadcastInDim S80x1 ![0] bcast_S80_S80x1_0 main_v14
  let main_v16 : FVec F S80 .f32 := (fun x i => Host.gather gather_S80_S80x1_S80_n_0_n_n_0_1_1 x i) main_v0 main_v15
  let main_v17 : FVec F S80 .f32 := Host.negf main_v16
  let main_c_9 : IVec S_ 32 := constantI S_ 32 80#32
  let main_v18 : IVec S80 32 := broadcastInDim S80 ![] bcast_S_S80 main_c_9
  let main_v19 : IVec S80 32 := addi main_c_2 main_v18
  let main_v20 : IVec S80 32 := select main_c_4 main_v19 main_c_2
  let main_v21 : IVec S80x1 32 := broadcastInDim S80x1 ![0] bcast_S80_S80x1_0 main_v20
  let main_v22 : FVec F S80 .f32 := (fun x i => Host.gather gather_S80_S80x1_S80_n_0_n_n_0_1_1 x i) main_v0 main_v21
  let main_v23 : FVec F S80 .f32 := fn_where (F := F) main_c_5 main_v17 main_v22
  let main_v24 : IVec S80 1 := cmpf .oeq main_arg5 main_v23
  (main_v3, main_v6, main_v7, main_v8, main_v9, main_v11, main_v24)

def fn {F : FTy → Type} [FloatOps F] (main_arg0 : FVec F S4096x256x9 .f32) (main_arg1 : FVec F S4096x256x9 .f32) (main_arg2 : IVec S80 32) (main_arg3 : IVec S80 32) (main_arg4 : IVec S80 32) (main_arg5 : FVec F S80 .f32) : IVec S4096x256x9 1 × IVec S4096x256x9 1 × IVec S80 1 × IVec S80 1 × IVec S80 1 × IVec S80 1 × IVec S80 1 :=
  let main_c : IVec S80 32 := fun i => lit0 (S80.rowMajor i)
  let main_c_0 : IVec S80 32 := fun i => lit1 (S80.rowMajor i)
  let main_c_1 : IVec S80 32 := fun i => lit2 (S80.rowMajor i)
  let main_c_2 : IVec S80 32 := fun i => lit3 (S80.rowMajor i)
  let main_c_3 : IVec S80 1 := constantI S80 1 0#1
  let main_c_4 : IVec S80 1 := constantI S80 1 0#1
  let main_c_5 : IVec S80 1 := fun i => lit4 (S80.rowMajor i)
  let main_v0 : FVec F S80 .f32 := Host.absf main_arg5
  let main_v1 : FVec F S4096x256x9 .f32 := Host.absf main_arg0
  let main_cst : FVec F S_ .f32 := constant S_ .f32 0x7F800000#32
  let main_v2 : FVec F S4096x256x9 .f32 := broadcastInDim S4096x256x9 ![] bcast_S_S4096x256x9 main_cst
  let main_v3 : IVec S4096x256x9 1 := cmpf .olt main_v1 main_v2
  let main_v4 : FVec F S4096x256x9 .f32 := Host.absf main_arg1
  let main_cst_6 : FVec F S_ .f32 := constant S_ .f32 0x7F800000#32
  let main_v5 : FVec F S4096x256x9 .f32 := broadcastInDim S4096x256x9 ![] bcast_S_S4096x256x9 main_cst_6
  let main_v6 : IVec S4096x256x9 1 := cmpf .olt main_v4 main_v5
  let main_v7 : IVec S80 1 := cmpi .eq main_arg2 main_c
  let main_v8 : IVec S80 1 := cmpi .eq main_arg3 main_c_0
  let main_v9 : IVec S80 1 := cmpi .eq main_arg4 main_c_1
  let main_cst_7 : FVec F S_ .f32 := constant S_ .f32 0x7F800000#32
  let main_v10 : FVec F S80 .f32 := broadcastInDim S80 ![] bcast_S_S80 main_cst_7
  let main_v11 : IVec S80 1 := cmpf .olt main_v0 main_v10
  let main_c_8 : IVec S_ 32 := constantI S_ 32 80#32
  let main_v12 : IVec S80 32 := broadcastInDim S80 ![] bcast_S_S80 main_c_8
  fn_part1 (F := F) main_arg5 main_c_2 main_c_3 main_c_4 main_c_5 main_v0 main_v3 main_v6 main_v7 main_v8 main_v9 main_v11 main_v12
-- ==== Kernel.lean ====
abbrev S4096x256x9 : Shape := ⟨3, ![4096, 256, 9]⟩
abbrev S80 : Shape := ⟨1, ![80]⟩
abbrev S9x4096x256 : Shape := ⟨3, ![9, 4096, 256]⟩
abbrev S7x4096x256 : Shape := ⟨3, ![7, 4096, 256]⟩
abbrev S2x9x8x256 : Shape := ⟨4, ![2, 9, 8, 256]⟩
abbrev S2x7x8x256 : Shape := ⟨4, ![2, 7, 8, 256]⟩
abbrev S_ : Shape := ⟨0, ![]⟩
abbrev S16 : Shape := ⟨1, ![16]⟩
abbrev S1 : Shape := ⟨1, ![1]⟩
abbrev S1x9x8x256 : Shape := ⟨4, ![1, 9, 8, 256]⟩
abbrev S9x8x256 : Shape := ⟨3, ![9, 8, 256]⟩
abbrev S1x7x8x256 : Shape := ⟨4, ![1, 7, 8, 256]⟩
abbrev S7x8x256 : Shape := ⟨3, ![7, 8, 256]⟩
abbrev S1x1x1x16 : Shape := ⟨4, ![1, 1, 1, 16]⟩
abbrev S4096x256x7 : Shape := ⟨3, ![4096, 256, 7]⟩

abbrev nBuf : Table → Nat
  | .hbm => 10
  | .local .scVector .vmem => 4
  | _ => 0

abbrev bufTy : (tb : Table) → Fin (nBuf tb) → BufTy
  | .hbm, ⟨0, _⟩ => ⟨S4096x256x9, .f32⟩
  | .hbm, ⟨1, _⟩ => ⟨S4096x256x9, .f32⟩
  | .hbm, ⟨2, _⟩ => ⟨S80, .i32⟩
  | .hbm, ⟨3, _⟩ => ⟨S80, .i32⟩
  | .hbm, ⟨4, _⟩ => ⟨S80, .i32⟩
  | .hbm, ⟨5, _⟩ => ⟨S80, .f32⟩
  | .hbm, ⟨6, _⟩ => ⟨S9x4096x256, .f32⟩
  | .hbm, ⟨7, _⟩ => ⟨S9x4096x256, .f32⟩
  | .hbm, ⟨8, _⟩ => ⟨S7x4096x256, .f32⟩
  | .hbm, ⟨9, _⟩ => ⟨S4096x256x7, .f32⟩
  | .local .scVector .vmem, ⟨0, _⟩ => ⟨S2x9x8x256, .f32⟩
  | .local .scVector .vmem, ⟨1, _⟩ => ⟨S2x9x8x256, .f32⟩
  | .local .scVector .vmem, ⟨2, _⟩ => ⟨S2x7x8x256, .f32⟩
  | .local .scVector .vmem, ⟨3, _⟩ => ⟨S80, .f32⟩
  | _, _ => ⟨S4096x256x9, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v0_scv : Ref sig .scVector := ⟨.hbm, 6, rfl⟩
abbrev main_v1_scv : Ref sig .scVector := ⟨.hbm, 7, rfl⟩
abbrev main_arg5_scv : Ref sig .scVector := ⟨.hbm, 5, rfl⟩
abbrev main_v2_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v223 : BitVec 32 := Scalar.addi v2 c0_i32
  let c0_i32_5 : BitVec 32 := 0#32
  ![0, v223.toNat, 0]
@[reducible] def k0_t1_loop : Scf.Loop 32 :=
  let c0_i32_23 : BitVec 32 := 0#32
  let c8_i32 : BitVec 32 := 8#32
  let v236 : BitVec 32 := Scalar.addi c0_i32_23 c8_i32
  let c1_i32 : BitVec 32 := 1#32
  ⟨c0_i32_23, v236, c1_i32⟩
def k0_off2 (i : grid0.Coords) (k0_t1 : Fin k0_t1_loop.trips) : Fin 3 → Nat :=
  let c0_i32_54 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_47 : BitVec 32 := 2#32
  let c0_i32_23 : BitVec 32 := 0#32
  let c1_i32 : BitVec 32 := 1#32
  let arg16 : BitVec 32 := Scf.iv c0_i32_23 c1_i32 k0_t1
  let v250 : BitVec 32 := Scalar.muli c2_i32_47 arg16
  let c1_i32_48 : BitVec 32 := 1#32
  let v251 : BitVec 32 := Scalar.addi v250 c1_i32_48
  let c8_i32_49 : BitVec 32 := 8#32
  let v252 : BitVec 32 := Scalar.muli v251 c8_i32_49
  let v253 : BitVec 32 := Scalar.addi v2 v252
  let c0_i32_55 : BitVec 32 := 0#32
  ![0, v253.toNat, 0]
def k0_off3 (i : grid0.Coords) : Fin 3 → Nat :=
  let c0_i32_76 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_77 : BitVec 32 := 0#32
  ![0, v2.toNat, 0]
def k0_cond1 (k0_t1 : Fin k0_t1_loop.trips) : BitVec 1 :=
  let c0_i32_23 : BitVec 32 := 0#32
  let c1_i32 : BitVec 32 := 1#32
  let arg16 : BitVec 32 := Scf.iv c0_i32_23 c1_i32 k0_t1
  let c0_i32_94 : BitVec 32 := 0#32
  let v278 : BitVec 1 := Scalar.cmpi .sgt arg16 c0_i32_94
  let v279 : BitVec 32 := Scalar.extui v278
  let c0_i32_95 : BitVec 32 := 0#32
  let v280 : BitVec 1 := Scalar.cmpi .ne v279 c0_i32_95
  v280

def k0_off4 (i : grid0.Coords) : Fin 3 → Nat :=
  let c0_i32_163 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_164 : BitVec 32 := 0#32
  ![0, v2.toNat, 0]
@[reducible] def k0_t2_loop : Scf.Loop 32 :=
  let c0_i32_97 : BitVec 32 := 0#32
  let c128_i32_98 : BitVec 32 := 128#32
  let v281 : BitVec 32 := Scalar.addi c0_i32_97 c128_i32_98
  let c1_i32_99 : BitVec 32 := 1#32
  ⟨c0_i32_97, v281, c1_i32_99⟩
def k0_off5 (k0_t2 : Fin k0_t2_loop.trips) : Fin 4 → Nat :=
  let c0_i32_172 : BitVec 32 := 0#32
  let v350 : Index := Scalar.indexCast c0_i32_172
  let c0_i32_173 : BitVec 32 := 0#32
  let v351 : Index := Scalar.indexCast c0_i32_173
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v352 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v353 : Index := Scalar.indexCast v349
  ![0, 0, v352.toNat, v353.toNat]
def k0_off6 (k0_t2 : Fin k0_t2_loop.trips) : Fin 4 → Nat :=
  let c0_i32_174 : BitVec 32 := 0#32
  let v356 : Index := Scalar.indexCast c0_i32_174
  let c1_i32_175 : BitVec 32 := 1#32
  let v357 : Index := Scalar.indexCast c1_i32_175
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v358 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v359 : Index := Scalar.indexCast v349
  ![0, 1, v358.toNat, v359.toNat]
def k0_off7 (k0_t2 : Fin k0_t2_loop.trips) : Fin 4 → Nat :=
  let c0_i32_176 : BitVec 32 := 0#32
  let v362 : Index := Scalar.indexCast c0_i32_176
  let c2_i32_177 : BitVec 32 := 2#32
  let v363 : Index := Scalar.indexCast c2_i32_177
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v364 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v365 : Index := Scalar.indexCast v349
  ![0, 2, v364.toNat, v365.toNat]
def k0_off8 (k0_t2 : Fin k0_t2_loop.trips) : Fin 4 → Nat :=
  let c0_i32_178 : BitVec 32 := 0#32
  let v368 : Index := Scalar.indexCast c0_i32_178
  let c3_i32 : BitVec 32 := 3#32
  let v369 : Index := Scalar.indexCast c3_i32
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v370 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v371 : Index := Scalar.indexCast v349
  ![0, 3, v370.toNat, v371.toNat]
def k0_off9 (k0_t2 : Fin k0_t2_loop.trips) : Fin 4 → Nat :=
  let c0_i32_179 : BitVec 32 := 0#32
  let v374 : Index := Scalar.indexCast c0_i32_179
  let c4_i32 : BitVec 32 := 4#32
  let v375 : Index := Scalar.indexCast c4_i32
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v376 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v377 : Index := Scalar.indexCast v349
  ![0, 4, v376.toNat, v377.toNat]
def k0_off10 (k0_t2 : Fin k0_t2_loop.trips) : Fin 4 → Nat :=
  let c0_i32_180 : BitVec 32 := 0#32
  let v380 : Index := Scalar.indexCast c0_i32_180
  let c5_i32 : BitVec 32 := 5#32
  let v381 : Index := Scalar.indexCast c5_i32
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v382 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v383 : Index := Scalar.indexCast v349
  ![0, 5, v382.toNat, v383.toNat]
def k0_off11 (k0_t2 : Fin k0_t2_loop.trips) : Fin 4 → Nat :=
  let c0_i32_181 : BitVec 32 := 0#32
  let v386 : Index := Scalar.indexCast c0_i32_181
  let c6_i32 : BitVec 32 := 6#32
  let v387 : Index := Scalar.indexCast c6_i32
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v388 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v389 : Index := Scalar.indexCast v349
  ![0, 6, v388.toNat, v389.toNat]
def k0_off12 (k0_t2 : Fin k0_t2_loop.trips) : Fin 4 → Nat :=
  let c0_i32_182 : BitVec 32 := 0#32
  let v392 : Index := Scalar.indexCast c0_i32_182
  let c7_i32_183 : BitVec 32 := 7#32
  let v393 : Index := Scalar.indexCast c7_i32_183
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v394 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v395 : Index := Scalar.indexCast v349
  ![0, 7, v394.toNat, v395.toNat]
def k0_off13 (k0_t2 : Fin k0_t2_loop.trips) : Fin 4 → Nat :=
  let c0_i32_184 : BitVec 32 := 0#32
  let v398 : Index := Scalar.indexCast c0_i32_184
  let c8_i32_185 : BitVec 32 := 8#32
  let v399 : Index := Scalar.indexCast c8_i32_185
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v400 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v401 : Index := Scalar.indexCast v349
  ![0, 8, v400.toNat, v401.toNat]
def k0_off14 (k0_t2 : Fin k0_t2_loop.trips) : Fin 4 → Nat :=
  let c0_i32_204 : BitVec 32 := 0#32
  let v485 : Index := Scalar.indexCast c0_i32_204
  let c0_i32_205 : BitVec 32 := 0#32
  let v486 : Index := Scalar.indexCast c0_i32_205
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v487 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v488 : Index := Scalar.indexCast v349
  ![0, 0, v487.toNat, v488.toNat]
def k0_off15 (k0_t2 : Fin k0_t2_loop.trips) : Fin 4 → Nat :=
  let c0_i32_206 : BitVec 32 := 0#32
  let v522 : Index := Scalar.indexCast c0_i32_206
  let c1_i32_207 : BitVec 32 := 1#32
  let v523 : Index := Scalar.indexCast c1_i32_207
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v524 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v525 : Index := Scalar.indexCast v349
  ![0, 1, v524.toNat, v525.toNat]
def k0_off16 (k0_t2 : Fin k0_t2_loop.trips) : Fin 4 → Nat :=
  let c0_i32_209 : BitVec 32 := 0#32
  let v562 : Index := Scalar.indexCast c0_i32_209
  let c2_i32_210 : BitVec 32 := 2#32
  let v563 : Index := Scalar.indexCast c2_i32_210
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v564 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v565 : Index := Scalar.indexCast v349
  ![0, 2, v564.toNat, v565.toNat]
def k0_off17 (k0_t2 : Fin k0_t2_loop.trips) : Fin 4 → Nat :=
  let c0_i32_211 : BitVec 32 := 0#32
  let v588 : Index := Scalar.indexCast c0_i32_211
  let c3_i32_212 : BitVec 32 := 3#32
  let v589 : Index := Scalar.indexCast c3_i32_212
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v590 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v591 : Index := Scalar.indexCast v349
  ![0, 3, v590.toNat, v591.toNat]
def k0_off18 (k0_t2 : Fin k0_t2_loop.trips) : Fin 4 → Nat :=
  let c0_i32_213 : BitVec 32 := 0#32
  let v630 : Index := Scalar.indexCast c0_i32_213
  let c4_i32_214 : BitVec 32 := 4#32
  let v631 : Index := Scalar.indexCast c4_i32_214
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v632 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v633 : Index := Scalar.indexCast v349
  ![0, 4, v632.toNat, v633.toNat]
def k0_off19 (k0_t2 : Fin k0_t2_loop.trips) : Fin 4 → Nat :=
  let c0_i32_215 : BitVec 32 := 0#32
  let v665 : Index := Scalar.indexCast c0_i32_215
  let c5_i32_216 : BitVec 32 := 5#32
  let v666 : Index := Scalar.indexCast c5_i32_216
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v667 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v668 : Index := Scalar.indexCast v349
  ![0, 5, v667.toNat, v668.toNat]
def k0_off20 (k0_t2 : Fin k0_t2_loop.trips) : Fin 4 → Nat :=
  let c0_i32_217 : BitVec 32 := 0#32
  let v693 : Index := Scalar.indexCast c0_i32_217
  let c6_i32_218 : BitVec 32 := 6#32
  let v694 : Index := Scalar.indexCast c6_i32_218
  let c0_i32_97 : BitVec 32 := 0#32
  let c1_i32_99 : BitVec 32 := 1#32
  let arg18 : BitVec 32 := Scf.iv c0_i32_97 c1_i32_99 k0_t2
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v695 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v696 : Index := Scalar.indexCast v349
  ![0, 6, v695.toNat, v696.toNat]
def k0_off21 (i : grid0.Coords) (k0_t1 : Fin k0_t1_loop.trips) : Fin 3 → Nat :=
  let c0_i32_107 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_101 : BitVec 32 := 2#32
  let c0_i32_23 : BitVec 32 := 0#32
  let c1_i32 : BitVec 32 := 1#32
  let arg16 : BitVec 32 := Scf.iv c0_i32_23 c1_i32 k0_t1
  let v283 : BitVec 32 := Scalar.muli c2_i32_101 arg16
  let c8_i32_102 : BitVec 32 := 8#32
  let v284 : BitVec 32 := Scalar.muli v283 c8_i32_102
  let v285 : BitVec 32 := Scalar.addi v2 v284
  let c0_i32_108 : BitVec 32 := 0#32
  ![0, v285.toNat, 0]
def k0_cond2 (k0_t1 : Fin k0_t1_loop.trips) : BitVec 1 :=
  let c0_i32_23 : BitVec 32 := 0#32
  let c1_i32 : BitVec 32 := 1#32
  let arg16 : BitVec 32 := Scf.iv c0_i32_23 c1_i32 k0_t1
  let c7_i32 : BitVec 32 := 7#32
  let v292 : BitVec 1 := Scalar.cmpi .slt arg16 c7_i32
  let v293 : BitVec 32 := Scalar.extui v292
  let c0_i32_114 : BitVec 32 := 0#32
  let v294 : BitVec 1 := Scalar.cmpi .ne v293 c0_i32_114
  v294

def k0_off22 (i : grid0.Coords) (k0_t1 : Fin k0_t1_loop.trips) : Fin 3 → Nat :=
  let c0_i32_166 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_159 : BitVec 32 := 2#32
  let c0_i32_23 : BitVec 32 := 0#32
  let c1_i32 : BitVec 32 := 1#32
  let arg16 : BitVec 32 := Scf.iv c0_i32_23 c1_i32 k0_t1
  let v322 : BitVec 32 := Scalar.muli c2_i32_159 arg16
  let c2_i32_160 : BitVec 32 := 2#32
  let v323 : BitVec 32 := Scalar.addi v322 c2_i32_160
  let c8_i32_161 : BitVec 32 := 8#32
  let v324 : BitVec 32 := Scalar.muli v323 c8_i32_161
  let v325 : BitVec 32 := Scalar.addi v2 v324
  let c0_i32_167 : BitVec 32 := 0#32
  ![0, v325.toNat, 0]
def k0_cond3 (k0_t1 : Fin k0_t1_loop.trips) : BitVec 1 :=
  let c0_i32_23 : BitVec 32 := 0#32
  let c1_i32 : BitVec 32 := 1#32
  let arg16 : BitVec 32 := Scf.iv c0_i32_23 c1_i32 k0_t1
  let c0_i32_137 : BitVec 32 := 0#32
  let v307 : BitVec 1 := Scalar.cmpi .sgt arg16 c0_i32_137
  let v308 : BitVec 32 := Scalar.extui v307
  let c0_i32_138 : BitVec 32 := 0#32
  let v309 : BitVec 1 := Scalar.cmpi .ne v308 c0_i32_138
  v309

def k0_off23 (i : grid0.Coords) : Fin 3 → Nat :=
  let c0_i32_163 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_164 : BitVec 32 := 0#32
  ![0, v2.toNat, 0]
@[reducible] def k0_t3_loop : Scf.Loop 32 :=
  let c0_i32_140 : BitVec 32 := 0#32
  let c128_i32_141 : BitVec 32 := 128#32
  let v310 : BitVec 32 := Scalar.addi c0_i32_140 c128_i32_141
  let c1_i32_142 : BitVec 32 := 1#32
  ⟨c0_i32_140, v310, c1_i32_142⟩
def k0_off24 (k0_t3 : Fin k0_t3_loop.trips) : Fin 4 → Nat :=
  let c1_i32_172 : BitVec 32 := 1#32
  let v350 : Index := Scalar.indexCast c1_i32_172
  let c0_i32_173 : BitVec 32 := 0#32
  let v351 : Index := Scalar.indexCast c0_i32_173
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v352 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v353 : Index := Scalar.indexCast v349
  ![1, 0, v352.toNat, v353.toNat]
def k0_off25 (k0_t3 : Fin k0_t3_loop.trips) : Fin 4 → Nat :=
  let c1_i32_174 : BitVec 32 := 1#32
  let v356 : Index := Scalar.indexCast c1_i32_174
  let c1_i32_175 : BitVec 32 := 1#32
  let v357 : Index := Scalar.indexCast c1_i32_175
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v358 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v359 : Index := Scalar.indexCast v349
  ![1, 1, v358.toNat, v359.toNat]
def k0_off26 (k0_t3 : Fin k0_t3_loop.trips) : Fin 4 → Nat :=
  let c1_i32_176 : BitVec 32 := 1#32
  let v362 : Index := Scalar.indexCast c1_i32_176
  let c2_i32_177 : BitVec 32 := 2#32
  let v363 : Index := Scalar.indexCast c2_i32_177
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v364 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v365 : Index := Scalar.indexCast v349
  ![1, 2, v364.toNat, v365.toNat]
def k0_off27 (k0_t3 : Fin k0_t3_loop.trips) : Fin 4 → Nat :=
  let c1_i32_178 : BitVec 32 := 1#32
  let v368 : Index := Scalar.indexCast c1_i32_178
  let c3_i32 : BitVec 32 := 3#32
  let v369 : Index := Scalar.indexCast c3_i32
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v370 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v371 : Index := Scalar.indexCast v349
  ![1, 3, v370.toNat, v371.toNat]
def k0_off28 (k0_t3 : Fin k0_t3_loop.trips) : Fin 4 → Nat :=
  let c1_i32_179 : BitVec 32 := 1#32
  let v374 : Index := Scalar.indexCast c1_i32_179
  let c4_i32 : BitVec 32 := 4#32
  let v375 : Index := Scalar.indexCast c4_i32
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v376 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v377 : Index := Scalar.indexCast v349
  ![1, 4, v376.toNat, v377.toNat]
def k0_off29 (k0_t3 : Fin k0_t3_loop.trips) : Fin 4 → Nat :=
  let c1_i32_180 : BitVec 32 := 1#32
  let v380 : Index := Scalar.indexCast c1_i32_180
  let c5_i32 : BitVec 32 := 5#32
  let v381 : Index := Scalar.indexCast c5_i32
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v382 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v383 : Index := Scalar.indexCast v349
  ![1, 5, v382.toNat, v383.toNat]
def k0_off30 (k0_t3 : Fin k0_t3_loop.trips) : Fin 4 → Nat :=
  let c1_i32_181 : BitVec 32 := 1#32
  let v386 : Index := Scalar.indexCast c1_i32_181
  let c6_i32 : BitVec 32 := 6#32
  let v387 : Index := Scalar.indexCast c6_i32
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v388 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v389 : Index := Scalar.indexCast v349
  ![1, 6, v388.toNat, v389.toNat]
def k0_off31 (k0_t3 : Fin k0_t3_loop.trips) : Fin 4 → Nat :=
  let c1_i32_182 : BitVec 32 := 1#32
  let v392 : Index := Scalar.indexCast c1_i32_182
  let c7_i32_183 : BitVec 32 := 7#32
  let v393 : Index := Scalar.indexCast c7_i32_183
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v394 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v395 : Index := Scalar.indexCast v349
  ![1, 7, v394.toNat, v395.toNat]
def k0_off32 (k0_t3 : Fin k0_t3_loop.trips) : Fin 4 → Nat :=
  let c1_i32_184 : BitVec 32 := 1#32
  let v398 : Index := Scalar.indexCast c1_i32_184
  let c8_i32_185 : BitVec 32 := 8#32
  let v399 : Index := Scalar.indexCast c8_i32_185
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v400 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v401 : Index := Scalar.indexCast v349
  ![1, 8, v400.toNat, v401.toNat]
def k0_off33 (k0_t3 : Fin k0_t3_loop.trips) : Fin 4 → Nat :=
  let c1_i32_204 : BitVec 32 := 1#32
  let v485 : Index := Scalar.indexCast c1_i32_204
  let c0_i32_205 : BitVec 32 := 0#32
  let v486 : Index := Scalar.indexCast c0_i32_205
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v487 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v488 : Index := Scalar.indexCast v349
  ![1, 0, v487.toNat, v488.toNat]
def k0_off34 (k0_t3 : Fin k0_t3_loop.trips) : Fin 4 → Nat :=
  let c1_i32_206 : BitVec 32 := 1#32
  let v522 : Index := Scalar.indexCast c1_i32_206
  let c1_i32_207 : BitVec 32 := 1#32
  let v523 : Index := Scalar.indexCast c1_i32_207
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v524 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v525 : Index := Scalar.indexCast v349
  ![1, 1, v524.toNat, v525.toNat]
def k0_off35 (k0_t3 : Fin k0_t3_loop.trips) : Fin 4 → Nat :=
  let c1_i32_209 : BitVec 32 := 1#32
  let v562 : Index := Scalar.indexCast c1_i32_209
  let c2_i32_210 : BitVec 32 := 2#32
  let v563 : Index := Scalar.indexCast c2_i32_210
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v564 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v565 : Index := Scalar.indexCast v349
  ![1, 2, v564.toNat, v565.toNat]
def k0_off36 (k0_t3 : Fin k0_t3_loop.trips) : Fin 4 → Nat :=
  let c1_i32_211 : BitVec 32 := 1#32
  let v588 : Index := Scalar.indexCast c1_i32_211
  let c3_i32_212 : BitVec 32 := 3#32
  let v589 : Index := Scalar.indexCast c3_i32_212
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v590 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v591 : Index := Scalar.indexCast v349
  ![1, 3, v590.toNat, v591.toNat]
def k0_off37 (k0_t3 : Fin k0_t3_loop.trips) : Fin 4 → Nat :=
  let c1_i32_213 : BitVec 32 := 1#32
  let v630 : Index := Scalar.indexCast c1_i32_213
  let c4_i32_214 : BitVec 32 := 4#32
  let v631 : Index := Scalar.indexCast c4_i32_214
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v632 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v633 : Index := Scalar.indexCast v349
  ![1, 4, v632.toNat, v633.toNat]
def k0_off38 (k0_t3 : Fin k0_t3_loop.trips) : Fin 4 → Nat :=
  let c1_i32_215 : BitVec 32 := 1#32
  let v665 : Index := Scalar.indexCast c1_i32_215
  let c5_i32_216 : BitVec 32 := 5#32
  let v666 : Index := Scalar.indexCast c5_i32_216
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v667 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v668 : Index := Scalar.indexCast v349
  ![1, 5, v667.toNat, v668.toNat]
def k0_off39 (k0_t3 : Fin k0_t3_loop.trips) : Fin 4 → Nat :=
  let c1_i32_217 : BitVec 32 := 1#32
  let v693 : Index := Scalar.indexCast c1_i32_217
  let c6_i32_218 : BitVec 32 := 6#32
  let v694 : Index := Scalar.indexCast c6_i32_218
  let c0_i32_140 : BitVec 32 := 0#32
  let c1_i32_142 : BitVec 32 := 1#32
  let arg18 : BitVec 32 := Scf.iv c0_i32_140 c1_i32_142 k0_t3
  let c0_i32_159 : BitVec 32 := 0#32
  let v323 : BitVec 1 := Scalar.cmpi .sgt arg18 c0_i32_159
  let v324 : BitVec 32 := Scalar.extui v323
  let c0_i32_160 : BitVec 32 := 0#32
  let v325 : BitVec 1 := Scalar.cmpi .slt arg18 c0_i32_160
  let v326 : BitVec 32 := Scalar.extui v325
  let v327 : BitVec 32 := Scalar.subi v324 v326
  let c16_i32 : BitVec 32 := 16#32
  let c0_i32_161 : BitVec 32 := 0#32
  let v328 : BitVec 1 := Scalar.cmpi .sgt c16_i32 c0_i32_161
  let v329 : BitVec 32 := Scalar.extui v328
  let c0_i32_162 : BitVec 32 := 0#32
  let v330 : BitVec 1 := Scalar.cmpi .slt c16_i32 c0_i32_162
  let v331 : BitVec 32 := Scalar.extui v330
  let v332 : BitVec 32 := Scalar.subi v329 v331
  let v333 : BitVec 1 := Scalar.cmpi .ne v327 v332
  let v334 : BitVec 32 := Scalar.remsi arg18 c16_i32
  let c0_i32_163 : BitVec 32 := 0#32
  let v335 : BitVec 1 := Scalar.cmpi .ne v334 c0_i32_163
  let v336 : BitVec 1 := Scalar.andi v333 v335
  let v322 : BitVec 32 := Scalar.divsi arg18 c16_i32
  let c1_i32_164 : BitVec 32 := 1#32
  let v337 : BitVec 32 := Scalar.subi v322 c1_i32_164
  let v338 : BitVec 32 := Scalar.select v336 v337 v322
  let v695 : Index := Scalar.indexCast v338
  let c16_i32_165 : BitVec 32 := 16#32
  let c0_i32_166 : BitVec 32 := 0#32
  let v339 : BitVec 1 := Scalar.cmpi .eq c16_i32_165 c0_i32_166
  let c1_i32_167 : BitVec 32 := 1#32
  let v340 : BitVec 32 := Scalar.select v339 c1_i32_167 c16_i32_165
  let v341 : BitVec 32 := Scalar.remsi arg18 v340
  let c0_i32_169 : BitVec 32 := 0#32
  let v343 : BitVec 1 := Scalar.cmpi .slt v341 c0_i32_169
  let c0_i32_170 : BitVec 32 := 0#32
  let v344 : BitVec 1 := Scalar.cmpi .slt v340 c0_i32_170
  let v345 : BitVec 1 := Scalar.xori v343 v344
  let c0_i32_168 : BitVec 32 := 0#32
  let v342 : BitVec 1 := Scalar.cmpi .ne v341 c0_i32_168
  let v346 : BitVec 1 := Scalar.andi v345 v342
  let v347 : BitVec 32 := Scalar.addi v341 v340
  let v348 : BitVec 32 := Scalar.select v346 v347 v341
  let c16_i32_171 : BitVec 32 := 16#32
  let v349 : BitVec 32 := Scalar.muli v348 c16_i32_171
  let v696 : Index := Scalar.indexCast v349
  ![1, 6, v695.toNat, v696.toNat]
def k0_off40 (i : grid0.Coords) (k0_t1 : Fin k0_t1_loop.trips) : Fin 3 → Nat :=
  let c0_i32_151 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_144 : BitVec 32 := 2#32
  let c0_i32_23 : BitVec 32 := 0#32
  let c1_i32 : BitVec 32 := 1#32
  let arg16 : BitVec 32 := Scf.iv c0_i32_23 c1_i32 k0_t1
  let v312 : BitVec 32 := Scalar.muli c2_i32_144 arg16
  let c1_i32_145 : BitVec 32 := 1#32
  let v313 : BitVec 32 := Scalar.addi v312 c1_i32_145
  let c8_i32_146 : BitVec 32 := 8#32
  let v314 : BitVec 32 := Scalar.muli v313 c8_i32_146
  let v315 : BitVec 32 := Scalar.addi v2 v314
  let c0_i32_152 : BitVec 32 := 0#32
  ![0, v315.toNat, 0]
def k0_off41 (i : grid0.Coords) : Fin 3 → Nat :=
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_30 : BitVec 32 := 0#32
  ![0, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x256x9 : Shape := ⟨3, ![4096, 256, 9]⟩
abbrev S80 : Shape := ⟨1, ![80]⟩
abbrev S_ : Shape := ⟨0, ![]⟩
abbrev S80x1 : Shape := ⟨2, ![80, 1]⟩
abbrev S4096x256x80 : Shape := ⟨3, ![4096, 256, 80]⟩
abbrev S1x1x80 : Shape := ⟨3, ![1, 1, 80]⟩
abbrev S4096x256x7 : Shape := ⟨3, ![4096, 256, 7]⟩

abbrev nBuf : Space → Nat
  | .hbm => 39
  | .vmem => 0
  | .smem => 0
  | _ => 0

abbrev bufTy : (tb : Table) → Fin (tcTables nBuf tb) → BufTy
  | .hbm, ⟨0, _⟩ => ⟨S4096x256x9, .f32⟩
  | .hbm, ⟨1, _⟩ => ⟨S4096x256x9, .f32⟩
  | .hbm, ⟨2, _⟩ => ⟨S80, .i32⟩
  | .hbm, ⟨3, _⟩ => ⟨S80, .i32⟩
  | .hbm, ⟨4, _⟩ => ⟨S80, .i32⟩
  | .hbm, ⟨5, _⟩ => ⟨S80, .f32⟩
  | .hbm, ⟨6, _⟩ => ⟨S_, .i32⟩
  | .hbm, ⟨7, _⟩ => ⟨S80, .i32⟩
  | .hbm, ⟨8, _⟩ => ⟨S80, .i1⟩
  | .hbm, ⟨9, _⟩ => ⟨S_, .i32⟩
  | .hbm, ⟨10, _⟩ => ⟨S80, .i32⟩
  | .hbm, ⟨11, _⟩ => ⟨S80, .i32⟩
  | .hbm, ⟨12, _⟩ => ⟨S80, .i32⟩
  | .hbm, ⟨13, _⟩ => ⟨S80x1, .i32⟩
  | .hbm, ⟨14, _⟩ => ⟨S4096x256x80, .f32⟩
  | .hbm, ⟨15, _⟩ => ⟨S_, .i32⟩
  | .hbm, ⟨16, _⟩ => ⟨S80, .i32⟩
  | .hbm, ⟨17, _⟩ => ⟨S80, .i1⟩
  | .hbm, ⟨18, _⟩ => ⟨S_, .i32⟩
  | .hbm, ⟨19, _⟩ => ⟨S80, .i32⟩
  | .hbm, ⟨20, _⟩ => ⟨S80, .i32⟩
  | .hbm, ⟨21, _⟩ => ⟨S80, .i32⟩
  | .hbm, ⟨22, _⟩ => ⟨S80x1, .i32⟩
  | .hbm, ⟨23, _⟩ => ⟨S4096x256x80, .f32⟩
  | .hbm, ⟨24, _⟩ => ⟨S4096x256x80, .f32⟩
  | .hbm, ⟨25, _⟩ => ⟨S1x1x80, .f32⟩
  | .hbm, ⟨26, _⟩ => ⟨S4096x256x80, .f32⟩
  | .hbm, ⟨27, _⟩ => ⟨S4096x256x80, .f32⟩
  | .hbm, ⟨28, _⟩ => ⟨S_, .f32⟩
  | .hbm, ⟨29, _⟩ => ⟨S4096x256x7, .f32⟩
  | .hbm, ⟨30, _⟩ => ⟨S_, .i32⟩
  | .hbm, ⟨31, _⟩ => ⟨S80, .i32⟩
  | .hbm, ⟨32, _⟩ => ⟨S80, .i1⟩
  | .hbm, ⟨33, _⟩ => ⟨S_, .i32⟩
  | .hbm, ⟨34, _⟩ => ⟨S80, .i32⟩
  | .hbm, ⟨35, _⟩ => ⟨S80, .i32⟩
  | .hbm, ⟨36, _⟩ => ⟨S80, .i32⟩
  | .hbm, ⟨37, _⟩ => ⟨S80x1, .i32⟩
  | .hbm, ⟨38, _⟩ => ⟨S4096x256x7, .f32⟩
  | _, _ => ⟨S4096x256x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.Formula.lean ====
/-
  The arithmetic of one group of sixteen lanes: from nine vectors of `X1`, nine of `X2` and the twenty-five distinct
  absolute coefficients, the seven output vectors, in the order in which the kernel adds the terms. Stated at any shape, so
  that the same text is the lane-by-lane value (`lane`).
-/
module

public import proofs.«01_k».proof.Defs
public import Idealize.ShloMosaic.Lib.Tactic

@[expose] public section

noncomputable section

namespace Cert.Proof.Sc

open Cert.KernelIdeal
open Idealize.ShloMosaic

/-- The index of a rank-three array at three coordinates. -/
def ix3 {n₀ n₁ n₂ : ℕ} (a : Fin n₀) (b : Fin n₁) (c : Fin n₂) : (⟨3, ![n₀, n₁, n₂]⟩ : Shape).Idx :=
  fun | 0 => a | 1 => b | 2 => c

/-- The index of a rank-four array at four coordinates. -/
def ix4 {n₀ n₁ n₂ n₃ : ℕ} (a : Fin n₀) (b : Fin n₁) (c : Fin n₂) (d : Fin n₃) : (⟨4, ![n₀, n₁, n₂, n₃]⟩ : Shape).Idx :=
  fun | 0 => a | 1 => b | 2 => c | 3 => d

/-- The index of a vector at one coordinate. -/
def ix1 {n₀ : ℕ} (a : Fin n₀) : (⟨1, ![n₀]⟩ : Shape).Idx :=
  fun | 0 => a

section Formula

variable {F : FTy → Type} [FloatOps F] {s : Shape}

/-- Zero minus a vector: how the kernel negates. -/
def neg (x : FVec F s .f32) : FVec F s .f32 := subf (broadcast s (Scalar.ofBits .f32 0x00000000#32)) x

/-- Output component 0 of the contraction, the groups of equal coefficient added one after another, in the kernel's order. -/
def out0 (a b : Fin 9 → FVec F s .f32) (c : Fin 25 → FVec F s .f32) : FVec F s .f32 :=
  have t0 := neg (mulf (c 0) (addf (mulf (a 8) (b 5)) (mulf (a 0) (b 3))))
  have t1 := addf t0 (mulf (c 1) (mulf (a 7) (b 4)))
  have t2 := addf t1 (mulf (c 2) (subf (mulf (a 6) (b 5)) (mulf (a 2) (b 3))))
  have t3 := addf t2 (mulf (c 3) (subf (mulf (a 5) (b 6)) (mulf (a 3) (b 2))))
  have t4 := addf t3 (mulf (c 4) (mulf (a 4) (b 7)))
  have t5 := subf t4 (mulf (c 5) (addf (mulf (a 5) (b 8)) (mulf (a 3) (b 0))))
  t5

/-- Output component 1 of the contraction, the groups of equal coefficient added one after another, in the kernel's order. -/
def out1 (a b : Fin 9 → FVec F s .f32) (c : Fin 25 → FVec F s .f32) : FVec F s .f32 :=
  have t0 := (mulf (c 6) (addf (mulf (a 8) (b 6)) (mulf (a 0) (b 2))))
  have t1 := subf t0 (mulf (c 7) (addf (mulf (a 7) (b 5)) (mulf (a 1) (b 3))))
  have t2 := addf t1 (mulf (c 8) (mulf (a 6) (b 4)))
  have t3 := addf t2 (mulf (c 9) (subf (mulf (a 5) (b 5)) (mulf (a 3) (b 3))))
  have t4 := addf t3 (mulf (c 10) (mulf (a 4) (b 6)))
  have t5 := subf t4 (mulf (c 11) (addf (mulf (a 5) (b 7)) (mulf (a 3) (b 1))))
  have t6 := addf t5 (mulf (c 12) (addf (mulf (a 6) (b 8)) (mulf (a 2) (b 0))))
  t6

/-- Output component 2 of the contraction, the groups of equal coefficient added one after another, in the kernel's order. -/
def out2 (a b : Fin 9 → FVec F s .f32) (c : Fin 25 → FVec F s .f32) : FVec F s .f32 :=
  have t0 := neg (mulf (c 13) (addf (mulf (a 8) (b 7)) (mulf (a 0) (b 1))))
  have t1 := addf t0 (mulf (c 14) (addf (mulf (a 7) (b 6)) (mulf (a 1) (b 2))))
  have t2 := subf t1 (mulf (c 15) (addf (mulf (a 6) (b 5)) (mulf (a 2) (b 3))))
  have t3 := addf t2 (mulf (c 16) (mulf (a 5) (b 4)))
  have t4 := addf t3 (mulf (c 17) (mulf (a 4) (b 5)))
  have t5 := subf t4 (mulf (c 18) (addf (mulf (a 5) (b 6)) (mulf (a 3) (b 2))))
  have t6 := addf t5 (mulf (c 19) (addf (mulf (a 6) (b 7)) (mulf (a 2) (b 1))))
  have t7 := subf t6 (mulf (c 20) (addf (mulf (a 7) (b 8)) (mulf (a 1) (b 0))))
  t7

/-- Output component 3 of the contraction, the groups of equal coefficient added one after another, in the kernel's order. -/
def out3 (a b : Fin 9 → FVec F s .f32) (c : Fin 25 → FVec F s .f32) : FVec F s .f32 :=
  have t0 := (mulf (c 21) (subf (mulf (a 8) (b 0)) (mulf (a 0) (b 8))))
  have t1 := addf t0 (mulf (c 22) (subf (mulf (a 1) (b 7)) (mulf (a 7) (b 1))))
  have t2 := addf t1 (mulf (c 23) (subf (mulf (a 6) (b 2)) (mulf (a 2) (b 6))))
  have t3 := addf t2 (mulf (c 24) (subf (mulf (a 3) (b 5)) (mulf (a 5) (b 3))))
  t3

/-- Output component 4 of the contraction, the groups of equal coefficient added one after another, in the kernel's order. -/
def out4 (a b : Fin 9 → FVec F s .f32) (c : Fin 25 → FVec F s .f32) : FVec F s .f32 :=
  have t0 := (mulf (c 13) (subf (mulf (a 0) (b 7)) (mulf (a 8) (b 1))))
  have t1 := addf t0 (mulf (c 14) (subf (mulf (a 7) (b 2)) (mulf (a 1) (b 6))))
  have t2 := addf t1 (mulf (c 15) (subf (mulf (a 2) (b 5)) (mulf (a 6) (b 3))))
  have t3 := subf t2 (mulf (c 16) (mulf (a 3) (b 4)))
  have t4 := subf t3 (mulf (c 17) (mulf (a 4) (b 3)))
  have t5 := addf t4 (mulf (c 18) (subf (mulf (a 5) (b 2)) (mulf (a 3) (b 6))))
  have t6 := addf t5 (mulf (c 19) (subf (mulf (a 2) (b 7)) (mulf (a 6) (b 1))))
  have t7 := addf t6 (mulf (c 20) (subf (mulf (a 7) (b 0)) (mulf (a 1) (b 8))))
  t7

/-- Output component 5 of the contraction, the groups of equal coefficient added one after another, in the kernel's order. -/
def out5 (a b : Fin 9 → FVec F s .f32) (c : Fin 25 → FVec F s .f32) : FVec F s .f32 :=
  have t0 := (mulf (c 6) (subf (mulf (a 8) (b 2)) (mulf (a 0) (b 6))))
  have t1 := addf t0 (mulf (c 7) (subf (mulf (a 1) (b 5)) (mulf (a 7) (b 3))))
  have t2 := subf t1 (mulf (c 8) (mulf (a 2) (b 4)))
  have t3 := subf t2 (mulf (c 9) (addf (mulf (a 5) (b 3)) (mulf (a 3) (b 5))))
  have t4 := subf t3 (mulf (c 10) (mulf (a 4) (b 2)))
  have t5 := addf t4 (mulf (c 11) (subf (mulf (a 5) (b 1)) (mulf (a 3) (b 7))))
  have t6 := addf t5 (mulf (c 12) (subf (mulf (a 2) (b 8)) (mulf (a 6) (b 0))))
  t6

/-- Output component 6 of the contraction, the groups of equal coefficient added one after another, in the kernel's order. -/
def out6 (a b : Fin 9 → FVec F s .f32) (c : Fin 25 → FVec F s .f32) : FVec F s .f32 :=
  have t0 := (mulf (c 0) (subf (mulf (a 0) (b 5)) (mulf (a 8) (b 3))))
  have t1 := subf t0 (mulf (c 1) (mulf (a 1) (b 4)))
  have t2 := subf t1 (mulf (c 2) (addf (mulf (a 6) (b 3)) (mulf (a 2) (b 5))))
  have t3 := subf t2 (mulf (c 3) (addf (mulf (a 5) (b 2)) (mulf (a 3) (b 6))))
  have t4 := subf t3 (mulf (c 4) (mulf (a 4) (b 1)))
  have t5 := addf t4 (mulf (c 5) (subf (mulf (a 5) (b 0)) (mulf (a 3) (b 8))))
  t5

/-- All seven output components. -/
def outV (j : Fin 7) (a b : Fin 9 → FVec F s .f32) (c : Fin 25 → FVec F s .f32) : FVec F s .f32 :=
  match j with
  | 0 => out0 a b c
  | 1 => out1 a b c
  | 2 => out2 a b c
  | 3 => out3 a b c
  | 4 => out4 a b c
  | 5 => out5 a b c
  | 6 => out6 a b c

/-- One lane of output component `j`. -/
def lane (j : Fin 7) (a b : Fin 9 → F .f32) (c : Fin 25 → F .f32) : F .f32 :=
  outV (s := S_) j (fun p _ => a p) (fun p _ => b p) (fun q _ => c q) (fun k => k.elim0)

/-- The vectors are computed lane by lane. -/
theorem outV_apply (j : Fin 7) (a b : Fin 9 → FVec F s .f32) (c : Fin 25 → FVec F s .f32) (i : s.Idx) :
    outV j a b c i = lane j (fun p => a p i) (fun p => b p i) (fun q => c q i) := by
  match j with
  | 0 => rfl
  | 1 => rfl
  | 2 => rfl
  | 3 => rfl
  | 4 => rfl
  | 5 => rfl
  | 6 => rfl

/-- Where the twenty-five distinct absolute coefficients sit among the eighty multipliers. -/
def rep : Fin 25 → Fin 80 :=
  ![0, 2, 3, 5, 7, 8, 10, 12, 14, 15, 17, 18, 20, 22, 24, 26, 28, 29, 30, 32, 34, 36, 38, 40, 42]

/-- The coefficients: the absolute values of the multipliers at `rep`. -/
def coef (mu : S80.Idx → F .f32) (q : Fin 25) : F .f32 := FloatOps.absf (mu (ix1 (rep q)))

/-- What the kernel's call leaves in its result, element by element: the lane's arithmetic of the two transposed operands'
    columns, at the coefficients. -/
def result (x1 x2 : S9x4096x256.Idx → F .f32) (mu : S80.Idx → F .f32) (i : S7x4096x256.Idx) : F .f32 :=
  lane (i 0) (fun p => x1 (ix3 p (i 1) (i 2))) (fun p => x2 (ix3 p (i 1) (i 2))) (coef mu)

end Formula

end Cert.Proof.Sc

end
-- ==== Proof.Trip.lean ====
/-
  The names shared by the tile's proof, and the sixteen-lane trip of the two inner loops as one program: nine vectors of
  each operand are loaded, the seven output vectors are computed, each is stored. Both inner loops of the kernel are this
  program at their own offsets (`slot0_trip`, `slot1_trip`).
-/
module

public import proofs.«01_k».proof.Defs
public import proofs.«01_k».proof.Proof.Formula
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen
open Idealize.ShloMosaic
open Idealize.SL.Sem

variable {F : FTy → Type}

/-- The transposed operands, the multipliers and the result of the call, as a tile addresses them. -/
abbrev x1A : Memref sig .scVector .hbm S9x4096x256 .f32 := Memref.whole main_v0_scv
abbrev x2A : Memref sig .scVector .hbm S9x4096x256 .f32 := Memref.whole main_v1_scv
abbrev muA : Memref sig .scVector .hbm S80 .f32 := Memref.whole main_arg5_scv
abbrev outA : Memref sig .scVector .hbm S7x4096x256 .f32 := Memref.whole main_v2_scv
/-- A tile's scratch: two slots of each operand's chunk, two of the output's, the multipliers. -/
abbrev x1S : Memref sig .scVector .vmem S2x9x8x256 .f32 := Memref.whole cc0_scratch0
abbrev x2S : Memref sig .scVector .vmem S2x9x8x256 .f32 := Memref.whole cc0_scratch1
abbrev outS : Memref sig .scVector .vmem S2x7x8x256 .f32 := Memref.whole cc0_scratch2
abbrev muS : Memref sig .scVector .vmem S80 .f32 := Memref.whole cc0_scratch3

/-- The SparseCore and the vector subcore of a tile. -/
abbrev cV (L : grid0.Coords) : Fin τ.nSC := (L 0).castLE hcore0
abbrev jV (L : grid0.Coords) : Fin τ.nSub := (L 1).castLE hsub0

/-- A tile's programs. -/
abbrev TProg (F : FTy → Type) (L : grid0.Coords) (α : Type) : Type 1 :=
  Prog (TpuEff nD τ sig (Elt F) Λ₀ (.scVector (cV L) (jV L))) α

variable [FloatOps F] (L : grid0.Coords)

/-- The vector of operand 1 at offset `o`, as sixteen lanes. -/
def load1 (o : Fin 4 → ℕ) (h : ∀ a, o a + S1x1x1x16.size a ≤ S2x9x8x256.size a) : TProg F L (Vec F S1x1x1x16 .f32) :=
  Prog.lift (.load x1S (Rect.unit (s := S2x9x8x256) o S1x1x1x16.size h).toLoadRect (View.loadsAt_vmem h_S1x1x1x16))

/-- The vector of operand 2 at offset `o`, as sixteen lanes. -/
def load2 (o : Fin 4 → ℕ) (h : ∀ a, o a + S1x1x1x16.size a ≤ S2x9x8x256.size a) : TProg F L (Vec F S1x1x1x16 .f32) :=
  Prog.lift (.load x2S (Rect.unit (s := S2x9x8x256) o S1x1x1x16.size h).toLoadRect (View.loadsAt_vmem h_S1x1x1x16))

/-- The output vector `w` written at offset `o`, after a read of what was there that nothing uses. -/
def put (o : Fin 4 → ℕ) (h : ∀ a, o a + S1x1x1x16.size a ≤ S2x7x8x256.size a) (w : FVec F S16 .f32) : TProg F L PUnit := do
  let _ ← Prog.lift (.load outS (Rect.unit (s := S2x7x8x256) o S1x1x1x16.size h).toLoadRect (View.loadsAt_vmem h_S1x1x1x16))
  Prog.lift (.store outS (Rect.unit (s := S2x7x8x256) o S1x1x1x16.size h) (shapeCast S1x1x1x16 w shapeCasts_S16_S1x1x1x16)
    Finset.univ (View.stores_vmem_bits_univ h_S1x1x1x16 rfl) (.inl rfl))

/-- One trip of an inner loop at the offsets `ox` of the operands' vectors and `oo` of the outputs'. -/
def trip (ox : Fin 9 → Fin 4 → ℕ) (hx : ∀ p a, ox p a + S1x1x1x16.size a ≤ S2x9x8x256.size a)
    (oo : Fin 7 → Fin 4 → ℕ) (ho : ∀ j a, oo j a + S1x1x1x16.size a ≤ S2x7x8x256.size a)
    (C : Fin 25 → FVec F S16 .f32) : TProg F L (BitVec 32) := do
  let a0 ← load1 L (ox 0) (hx 0)
  let a1 ← load1 L (ox 1) (hx 1)
  let a2 ← load1 L (ox 2) (hx 2)
  let a3 ← load1 L (ox 3) (hx 3)
  let a4 ← load1 L (ox 4) (hx 4)
  let a5 ← load1 L (ox 5) (hx 5)
  let a6 ← load1 L (ox 6) (hx 6)
  let a7 ← load1 L (ox 7) (hx 7)
  let a8 ← load1 L (ox 8) (hx 8)
  let b0 ← load2 L (ox 0) (hx 0)
  let b1 ← load2 L (ox 1) (hx 1)
  let b2 ← load2 L (ox 2) (hx 2)
  let b3 ← load2 L (ox 3) (hx 3)
  let b4 ← load2 L (ox 4) (hx 4)
  let b5 ← load2 L (ox 5) (hx 5)
  let b6 ← load2 L (ox 6) (hx 6)
  let b7 ← load2 L (ox 7) (hx 7)
  let b8 ← load2 L (ox 8) (hx 8)
  let a : Fin 9 → FVec F S16 .f32 := fun p => shapeCast S16 ((![a0, a1, a2, a3, a4, a5, a6, a7, a8] : Fin 9 → Vec F S1x1x1x16 .f32) p) shapeCasts_S1x1x1x16_S16
  let b : Fin 9 → FVec F S16 .f32 := fun p => shapeCast S16 ((![b0, b1, b2, b3, b4, b5, b6, b7, b8] : Fin 9 → Vec F S1x1x1x16 .f32) p) shapeCasts_S1x1x1x16_S16
  put L (oo 0) (ho 0) (outV 0 a b C)
  put L (oo 1) (ho 1) (outV 1 a b C)
  put L (oo 2) (ho 2) (outV 2 a b C)
  put L (oo 3) (ho 3) (outV 3 a b C)
  put L (oo 4) (ho 4) (outV 4 a b C)
  put L (oo 5) (ho 5) (outV 5 a b C)
  put L (oo 6) (ho 6) (outV 6 a b C)
  pure 0#32

/-- The offsets of the operands' vectors, and of the outputs', in the inner loop over slot 0. -/
def ox0 (t : Fin k0_t2_loop.trips) : Fin 9 → Fin 4 → ℕ := ![k0_off5 t, k0_off6 t, k0_off7 t, k0_off8 t, k0_off9 t, k0_off10 t, k0_off11 t, k0_off12 t, k0_off13 t]
def oo0 (t : Fin k0_t2_loop.trips) : Fin 7 → Fin 4 → ℕ := ![k0_off14 t, k0_off15 t, k0_off16 t, k0_off17 t, k0_off18 t, k0_off19 t, k0_off20 t]

omit [FloatOps F] in
theorem ox0_inb (t : Fin k0_t2_loop.trips) : ∀ p a, ox0 t p a + S1x1x1x16.size a ≤ S2x9x8x256.size a
  | 0 => k0_off5_inb t
  | 1 => k0_off6_inb t
  | 2 => k0_off7_inb t
  | 3 => k0_off8_inb t
  | 4 => k0_off9_inb t
  | 5 => k0_off10_inb t
  | 6 => k0_off11_inb t
  | 7 => k0_off12_inb t
  | 8 => k0_off13_inb t
omit [FloatOps F] in
theorem oo0_inb (t : Fin k0_t2_loop.trips) : ∀ j a, oo0 t j a + S1x1x1x16.size a ≤ S2x7x8x256.size a
  | 0 => k0_off14_inb t
  | 1 => k0_off15_inb t
  | 2 => k0_off16_inb t
  | 3 => k0_off17_inb t
  | 4 => k0_off18_inb t
  | 5 => k0_off19_inb t
  | 6 => k0_off20_inb t

/-- A trip of the inner loop over slot 0 is `trip` at its offsets. -/
theorem slot0_trip (v2 : BitVec 32) (C : Fin 25 → FVec F S16 .f32) (k0_t1 : Fin k0_t1_loop.trips) (arg16 : BitVec 32)
    (t : Fin k0_t2_loop.trips) (acc : BitVec 32) :
    k0_t2_body L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2
        (C 0) (C 1) (C 2) (C 3) (C 4) (C 5) (C 6) (C 7) (C 8) (C 9) (C 10) (C 11) (C 12) (C 13) (C 14) (C 15) (C 16) (C 17) (C 18) (C 19) (C 20) (C 21) (C 22) (C 23) (C 24) k0_t1 arg16 t acc
      = trip L (ox0 t) (ox0_inb t) (oo0 t) (oo0_inb t) C := by
  unfold k0_t2_body
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  rfl

/-- The offsets of the operands' vectors, and of the outputs', in the inner loop over slot 1. -/
def ox1 (t : Fin k0_t3_loop.trips) : Fin 9 → Fin 4 → ℕ := ![k0_off24 t, k0_off25 t, k0_off26 t, k0_off27 t, k0_off28 t, k0_off29 t, k0_off30 t, k0_off31 t, k0_off32 t]
def oo1 (t : Fin k0_t3_loop.trips) : Fin 7 → Fin 4 → ℕ := ![k0_off33 t, k0_off34 t, k0_off35 t, k0_off36 t, k0_off37 t, k0_off38 t, k0_off39 t]

omit [FloatOps F] in
theorem ox1_inb (t : Fin k0_t3_loop.trips) : ∀ p a, ox1 t p a + S1x1x1x16.size a ≤ S2x9x8x256.size a
  | 0 => k0_off24_inb t
  | 1 => k0_off25_inb t
  | 2 => k0_off26_inb t
  | 3 => k0_off27_inb t
  | 4 => k0_off28_inb t
  | 5 => k0_off29_inb t
  | 6 => k0_off30_inb t
  | 7 => k0_off31_inb t
  | 8 => k0_off32_inb t
omit [FloatOps F] in
theorem oo1_inb (t : Fin k0_t3_loop.trips) : ∀ j a, oo1 t j a + S1x1x1x16.size a ≤ S2x7x8x256.size a
  | 0 => k0_off33_inb t
  | 1 => k0_off34_inb t
  | 2 => k0_off35_inb t
  | 3 => k0_off36_inb t
  | 4 => k0_off37_inb t
  | 5 => k0_off38_inb t
  | 6 => k0_off39_inb t

/-- A trip of the inner loop over slot 1 is `trip` at its offsets. -/
theorem slot1_trip (v2 : BitVec 32) (C : Fin 25 → FVec F S16 .f32) (k0_t1 : Fin k0_t1_loop.trips) (arg16 v293 c0_i32_114 : BitVec 32)
    (t : Fin k0_t3_loop.trips) (acc : BitVec 32) :
    k0_t3_body L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2
        (C 0) (C 1) (C 2) (C 3) (C 4) (C 5) (C 6) (C 7) (C 8) (C 9) (C 10) (C 11) (C 12) (C 13) (C 14) (C 15) (C 16) (C 17) (C 18) (C 19) (C 20) (C 21) (C 22) (C 23) (C 24) k0_t1 arg16 v293 c0_i32_114 t acc
      = trip L (ox1 t) (ox1_inb t) (oo1 t) (oo1_inb t) C := by
  unfold k0_t3_body
  simp only [k0_part8_eq_skeleton, k0_part9_eq_skeleton, k0_part10_eq_skeleton, k0_part11_eq_skeleton, k0_part12_eq_skeleton, k0_part13_eq_skeleton, k0_part14_eq_skeleton]
  unfold k0_part8_skel k0_part9_skel k0_part10_skel k0_part11_skel k0_part12_skel k0_part13_skel k0_part14_skel
  rfl

end Cert.Proof.Sc

end
-- ==== Proof.Views.lean ====
/-
  The elements the tile's copies and vector accesses name, and the contents they leave: a scratch's slot, a block of eight
  rows of the operands and of the result, a vector of sixteen lanes inside a slot.
-/
module

public import proofs.«01_k».proof.Proof.Trip

@[expose] public section

noncomputable section

namespace Cert.Proof.Sc

open Cert.KernelIdeal Cert.KernelIdeal.Gen
open Idealize.ShloMosaic

variable {F : FTy → Type}

/-! ## Slots and blocks -/

/-- Slot `b` of an operand's scratch. -/
def slotX (b : ℕ) : Finset S2x9x8x256.Idx := Finset.univ.filter fun i => (i 0).val = b
/-- Slot `b` of the output's scratch. -/
def slotO (b : ℕ) : Finset S2x7x8x256.Idx := Finset.univ.filter fun i => (i 0).val = b
/-- Block `n` of the result: its rows `8 * n` to `8 * n + 7`. -/
def blockO (n : ℕ) : Finset S7x4096x256.Idx := Finset.univ.filter fun i => (i 1).val / 8 = n

theorem mem_slotX {b : ℕ} {i : S2x9x8x256.Idx} : i ∈ slotX b ↔ (i 0).val = b := by simp [slotX]
theorem mem_slotO {b : ℕ} {i : S2x7x8x256.Idx} : i ∈ slotO b ↔ (i 0).val = b := by simp [slotO]
theorem mem_blockO {n : ℕ} {i : S7x4096x256.Idx} : i ∈ blockO n ↔ (i 1).val / 8 = n := by simp [blockO]

/-- Row `r` of block `n`. -/
def row (n : ℕ) (r : Fin 8) : Fin 4096 := ⟨(8 * n + r.val) % 4096, Nat.mod_lt _ (by omega)⟩

/-- Block `n` of an operand laid out as a slot. -/
def chunk (X : S9x4096x256.Idx → F .f32) (n : ℕ) : S2x9x8x256.Idx → F .f32 := fun i => X (ix3 (i 1) (row n (i 2)) (i 3))
/-- Block `n` of a result laid out as a slot. -/
def chunkO (R : S7x4096x256.Idx → F .f32) (n : ℕ) : S2x7x8x256.Idx → F .f32 := fun i => R (ix3 (i 1) (row n (i 2)) (i 3))

theorem slotX_union : slotX 0 ∪ slotX 1 = Finset.univ := by
  ext i
  have h : (i 0).val < 2 := (i 0).isLt
  simp only [Finset.mem_union, mem_slotX, Finset.mem_univ, iff_true]
  omega
theorem slotO_union : slotO 0 ∪ slotO 1 = Finset.univ := by
  ext i
  have h : (i 0).val < 2 := (i 0).isLt
  simp only [Finset.mem_union, mem_slotO, Finset.mem_univ, iff_true]
  omega
theorem slotX_disjoint : Disjoint (slotX 0) (slotX 1) :=
  Finset.disjoint_left.mpr fun i h h' => absurd ((mem_slotX.mp h).symm.trans (mem_slotX.mp h')) (by omega)
theorem slotO_disjoint : Disjoint (slotO 0) (slotO 1) :=
  Finset.disjoint_left.mpr fun i h h' => absurd ((mem_slotO.mp h).symm.trans (mem_slotO.mp h')) (by omega)

/-! ## The copies' views -/

/-- Slot `b` of an operand's scratch as a block. -/
abbrev viewX (M : Memref sig .scVector .vmem S2x9x8x256 .f32) (b : ℕ) (h : ∀ a, (![b, 0, 0, 0] : Fin 4 → ℕ) a + S1x9x8x256.size a ≤ S2x9x8x256.size a) :
    Memref sig .scVector .vmem S9x8x256 .f32 :=
  (M.slice (Rect.unit ![b, 0, 0, 0] S1x9x8x256.size h) (fun _ => rfl)).squeeze S9x8x256 squeezes_S1x9x8x256_S9x8x256
/-- Slot `b` of the output's scratch as a block. -/
abbrev viewO (b : ℕ) (h : ∀ a, (![b, 0, 0, 0] : Fin 4 → ℕ) a + S1x7x8x256.size a ≤ S2x7x8x256.size a) :
    Memref sig .scVector .vmem S7x8x256 .f32 :=
  (outS.slice (Rect.unit ![b, 0, 0, 0] S1x7x8x256.size h) (fun _ => rfl)).squeeze S7x8x256 squeezes_S1x7x8x256_S7x8x256
/-- The block of an operand at offset `o`. -/
abbrev blkX (M : Memref sig .scVector .hbm S9x4096x256 .f32) (o : Fin 3 → ℕ) (h : ∀ a, o a + S9x8x256.size a ≤ S9x4096x256.size a) :
    Memref sig .scVector .hbm S9x8x256 .f32 :=
  M.slice (Rect.unit o S9x8x256.size h) (fun _ => rfl)
/-- The block of the result at offset `o`. -/
abbrev blkO (o : Fin 3 → ℕ) (h : ∀ a, o a + S7x8x256.size a ≤ S7x4096x256.size a) :
    Memref sig .scVector .hbm S7x8x256 .f32 :=
  outA.slice (Rect.unit o S7x8x256.size h) (fun _ => rfl)

theorem viewX_emb (M : Memref sig .scVector .vmem S2x9x8x256 .f32) (b : ℕ) (h) (x : S9x8x256.Idx) :
    (viewX M b h).view.emb x = M.view.emb (ix4 ⟨b, by have := h 0; simp at this; omega⟩ (x 0) (x 1) (x 2)) := by
  have e : (Rect.unit (s := S2x9x8x256) ![b, 0, 0, 0] S1x9x8x256.size h).emb (Shape.reshapeEquiv squeezes_S1x9x8x256_S9x8x256.numel_eq x)
      = (ix4 ⟨b, by have := h 0; simp at this; omega⟩ (x 0) (x 1) (x 2) : S2x9x8x256.Idx) := by
    refine (congrArg _ (Shape.reshapeEquiv_cons_one _ x)).trans ?_
    funext a
    refine Fin.ext ((Rect.emb_apply _ _ _).trans ?_)
    fin_cases a <;> simp [ix4] <;> rfl
  exact congrArg M.view.emb e

theorem viewO_emb (b : ℕ) (h) (x : S7x8x256.Idx) :
    (viewO b h).view.emb x = (ix4 ⟨b, by have := h 0; simp at this; omega⟩ (x 0) (x 1) (x 2) : S2x7x8x256.Idx) := by
  have e : (Rect.unit (s := S2x7x8x256) ![b, 0, 0, 0] S1x7x8x256.size h).emb (Shape.reshapeEquiv squeezes_S1x7x8x256_S7x8x256.numel_eq x)
      = (ix4 ⟨b, by have := h 0; simp at this; omega⟩ (x 0) (x 1) (x 2) : S2x7x8x256.Idx) := by
    refine (congrArg _ (Shape.reshapeEquiv_cons_one _ x)).trans ?_
    funext a
    refine Fin.ext ((Rect.emb_apply _ _ _).trans ?_)
    fin_cases a <;> simp [ix4] <;> rfl
  exact e

/-- An index of a slot is the slot view's at its last three coordinates. -/
theorem viewX_mem (M : Memref sig .scVector .vmem S2x9x8x256 .f32) (b : ℕ) (h) {i : S2x9x8x256.Idx} (hi : i ∈ slotX b) :
    (viewX M b h).view.emb (ix3 (i 1) (i 2) (i 3)) = M.view.emb i := by
  rw [viewX_emb]
  refine congrArg M.view.emb ?_
  funext a
  apply Fin.ext
  have := mem_slotX.mp hi
  fin_cases a <;> simp [ix4, ix3] <;> omega

theorem viewO_mem (b : ℕ) (h) {i : S2x7x8x256.Idx} (hi : i ∈ slotO b) :
    (viewO b h).view.emb (ix3 (i 1) (i 2) (i 3)) = i := by
  rw [viewO_emb]
  funext a
  apply Fin.ext
  have := mem_slotO.mp hi
  fin_cases a <;> simp [ix4, ix3] <;> omega

theorem viewX1_set (b : ℕ) (h) : (viewX x1S b h).view.set = slotX b := by
  ext i
  constructor
  · intro hi
    obtain ⟨x, -, rfl⟩ := Finset.mem_map.mp hi
    rw [viewX_emb]
    exact mem_slotX.mpr rfl
  · intro hi
    exact Finset.mem_map.mpr ⟨_, Finset.mem_univ _, viewX_mem x1S b h hi⟩
theorem viewX2_set (b : ℕ) (h) : (viewX x2S b h).view.set = slotX b := by
  ext i
  constructor
  · intro hi
    obtain ⟨x, -, rfl⟩ := Finset.mem_map.mp hi
    rw [viewX_emb]
    exact mem_slotX.mpr rfl
  · intro hi
    exact Finset.mem_map.mpr ⟨_, Finset.mem_univ _, viewX_mem x2S b h hi⟩
theorem viewO_set (b : ℕ) (h) : (viewO b h).view.set = slotO b := by
  ext i
  constructor
  · intro hi
    obtain ⟨x, -, rfl⟩ := Finset.mem_map.mp hi
    rw [viewO_emb]
    exact mem_slotO.mpr rfl
  · intro hi
    exact Finset.mem_map.mpr ⟨_, Finset.mem_univ _, viewO_mem b h hi⟩

theorem row_val {n : ℕ} (hn : n < 512) (r : Fin 8) : (row n r).val = 8 * n + r.val := by
  show (8 * n + r.val) % 4096 = _
  omega

theorem blkX_emb (M : Memref sig .scVector .hbm S9x4096x256 .f32) {n : ℕ} (hn : n < 512) (o : Fin 3 → ℕ) (h) (ho : o = ![0, 8 * n, 0]) (x : S9x8x256.Idx) :
    (blkX M o h).view.emb x = M.view.emb (ix3 (x 0) (row n (x 1)) (x 2)) := by
  have e : (Rect.unit (s := S9x4096x256) o S9x8x256.size h).emb x = (ix3 (x 0) (row n (x 1)) (x 2) : S9x4096x256.Idx) := by
    subst ho
    funext a
    refine Fin.ext ((Rect.emb_apply _ _ _).trans ?_)
    have := row_val hn (x 1)
    fin_cases a <;> simp [ix3] <;> omega
  exact congrArg M.view.emb e

theorem blkO_emb {n : ℕ} (hn : n < 512) (o : Fin 3 → ℕ) (h) (ho : o = ![0, 8 * n, 0]) (x : S7x8x256.Idx) :
    (blkO o h).view.emb x = (ix3 (x 0) (row n (x 1)) (x 2) : S7x4096x256.Idx) := by
  have e : (Rect.unit (s := S7x4096x256) o S7x8x256.size h).emb x = (ix3 (x 0) (row n (x 1)) (x 2) : S7x4096x256.Idx) := by
    subst ho
    funext a
    refine Fin.ext ((Rect.emb_apply _ _ _).trans ?_)
    have := row_val hn (x 1)
    fin_cases a <;> simp [ix3] <;> omega
  exact e

/-- An index of a block of the result is the block view's at its offset inside the block. -/
theorem blkO_mem {n : ℕ} (hn : n < 512) (o : Fin 3 → ℕ) (h) (ho : o = ![0, 8 * n, 0]) {i : S7x4096x256.Idx} (hi : i ∈ blockO n) :
    (blkO o h).view.emb (ix3 (i 0) ⟨(i 1).val % 8, Nat.mod_lt _ (by omega)⟩ (i 2)) = i := by
  rw [blkO_emb hn o h ho]
  funext a
  apply Fin.ext
  have := mem_blockO.mp hi
  have := row_val hn (⟨(i 1).val % 8, Nat.mod_lt _ (by omega)⟩ : Fin 8)
  fin_cases a <;> simp [ix3] at this ⊢ <;> omega

theorem blkO_set {n : ℕ} (hn : n < 512) (o : Fin 3 → ℕ) (h) (ho : o = ![0, 8 * n, 0]) : (blkO o h).view.set = blockO n := by
  ext i
  constructor
  · intro hi
    obtain ⟨x, -, rfl⟩ := Finset.mem_map.mp hi
    rw [blkO_emb hn o h ho]
    refine mem_blockO.mpr ?_
    have := row_val hn (x 1)
    have h8 : (x 1).val < 8 := (x 1).isLt
    show (row n (x 1)).val / 8 = n
    omega
  · intro hi
    exact Finset.mem_map.mpr ⟨_, Finset.mem_univ _, blkO_mem hn o h ho hi⟩

/-! ## What the copies leave -/

/-- A copy of block `n` of operand 1 into slot `b` leaves that block there; -/
theorem copy1_val {n : ℕ} (hn : n < 512) (b : ℕ) (hb) (o : Fin 3 → ℕ) (h) (ho : o = ![0, 8 * n, 0]) (X : S9x4096x256.Idx → F .f32) (f : S2x9x8x256.Idx → F .f32)
    {i : S2x9x8x256.Idx} (hi : i ∈ slotX b) :
    (viewX x1S b hb).view.write (Elt F) f ((blkX x1A o h).view.read (Elt F) X) Finset.univ i = chunk X n i := by
  have e : (viewX x1S b hb).view.emb (ix3 (i 1) (i 2) (i 3)) = i := viewX_mem x1S b hb hi
  conv_lhs => rw [← e]
  rw [View.write_emb_of_mem _ _ (Finset.mem_univ _)]
  exact congrArg X (blkX_emb x1A hn o h ho _)
/-- the same of operand 2; -/
theorem copy2_val {n : ℕ} (hn : n < 512) (b : ℕ) (hb) (o : Fin 3 → ℕ) (h) (ho : o = ![0, 8 * n, 0]) (X : S9x4096x256.Idx → F .f32) (f : S2x9x8x256.Idx → F .f32)
    {i : S2x9x8x256.Idx} (hi : i ∈ slotX b) :
    (viewX x2S b hb).view.write (Elt F) f ((blkX x2A o h).view.read (Elt F) X) Finset.univ i = chunk X n i := by
  have e : (viewX x2S b hb).view.emb (ix3 (i 1) (i 2) (i 3)) = i := viewX_mem x2S b hb hi
  conv_lhs => rw [← e]
  rw [View.write_emb_of_mem _ _ (Finset.mem_univ _)]
  exact congrArg X (blkX_emb x2A hn o h ho _)
/-- and a copy out of slot `b` holding block `n` of `R` leaves `R` on block `n` of the result. -/
theorem copyO_val {n : ℕ} (hn : n < 512) (b : ℕ) (hb) (o : Fin 3 → ℕ) (h) (ho : o = ![0, 8 * n, 0]) (R f : S7x4096x256.Idx → F .f32)
    {i : S7x4096x256.Idx} (hi : i ∈ blockO n) :
    (blkO o h).view.write (Elt F) f ((viewO b hb).view.read (Elt F) (chunkO R n)) Finset.univ i = R i := by
  have e := blkO_mem hn o h ho hi
  conv_lhs => rw [← e]
  rw [View.write_emb_of_mem _ _ (Finset.mem_univ _)]
  refine (congrArg (chunkO R n) (viewO_emb b hb _)).trans ?_
  rw [blkO_emb hn o h ho] at e
  exact congrArg R e

/-! ## Vectors of sixteen lanes -/

/-- Lane `l` of vector `g` of a row of 256. -/
def col (g : Fin 16) (l : Fin 16) : Fin 256 := ⟨16 * g.val + l.val, by omega⟩

theorem cast_in (l : Fin 16) : Shape.reshapeEquiv shapeCasts_S1x1x1x16_S16 (ix1 l : S16.Idx) = (ix4 0 0 0 l : S1x1x1x16.Idx) := by
  revert l; decide +kernel
theorem cast_out (l : Fin 16) : Shape.reshapeEquiv shapeCasts_S16_S1x1x1x16 (ix4 0 0 0 l : S1x1x1x16.Idx) = (ix1 l : S16.Idx) := by
  revert l; decide +kernel

theorem lanes_mem {n₁ : ℕ} (b : Fin 2) (p : Fin n₁) (r : Fin 8) (g : Fin 16) (h : ∀ a, (![b.val, p.val, r.val, 16 * g.val] : Fin 4 → ℕ) a + S1x1x1x16.size a ≤ (⟨4, ![2, n₁, 8, 256]⟩ : Shape).size a)
    (l : Fin 16) : (Rect.unit (s := ⟨4, ![2, n₁, 8, 256]⟩) ![b.val, p.val, r.val, 16 * g.val] S1x1x1x16.size h).emb (ix4 0 0 0 l : S1x1x1x16.Idx) = ix4 b p r (col g l) := by
  funext a
  refine Fin.ext ((Rect.emb_apply _ _ _).trans ?_)
  fin_cases a <;> simp [ix4, col]

/-- The contents `f` of the output's scratch with `w` on vector `g` of row `r` of component `j` of slot `b`. -/
def putAt (b : Fin 2) (j : Fin 7) (r : Fin 8) (g : Fin 16) (w : Fin 16 → F .f32) (f : S2x7x8x256.Idx → F .f32) : S2x7x8x256.Idx → F .f32 := fun i =>
  if (i 0).val = b.val ∧ (i 1).val = j.val ∧ (i 2).val = r.val ∧ (i 3).val / 16 = g.val then w ⟨(i 3).val % 16, Nat.mod_lt _ (by omega)⟩ else f i

/-- A store of sixteen lanes leaves them on its vector. -/
theorem store_val (b : Fin 2) (j : Fin 7) (r : Fin 8) (g : Fin 16) (o : Fin 4 → ℕ) (ho : o = ![b.val, j.val, r.val, 16 * g.val]) (h)
    (w : FVec F S16 .f32) (f : S2x7x8x256.Idx → F .f32) :
    (outS.access (Rect.unit (s := S2x7x8x256) o S1x1x1x16.size h)).write (Elt F) f (shapeCast S1x1x1x16 w shapeCasts_S16_S1x1x1x16) Finset.univ
      = putAt b j r g (fun l => w (ix1 l)) f := by
  subst ho
  funext i
  unfold putAt
  split
  · next hi =>
    obtain ⟨h0, h1, h2, h3⟩ := hi
    have e : (outS.access (Rect.unit (s := S2x7x8x256) ![b.val, j.val, r.val, 16 * g.val] S1x1x1x16.size h)).emb
        (ix4 0 0 0 ⟨(i 3).val % 16, Nat.mod_lt _ (by omega)⟩ : S1x1x1x16.Idx) = i := by
      refine (lanes_mem b j r g h ⟨(i 3).val % 16, Nat.mod_lt _ (by omega)⟩).trans ?_
      funext a
      apply Fin.ext
      fin_cases a <;> simp [ix4, col] <;> omega
    conv_lhs => rw [← e]
    rw [View.write_emb_of_mem _ _ (Finset.mem_univ _)]
    exact congrArg w (cast_out _)
  · next hi =>
    refine View.write_of_not_mem _ _ _ fun hm => hi ?_
    obtain ⟨x, -, rfl⟩ := Finset.mem_map.mp hm
    have ex : x = (ix4 0 0 0 (x 3) : S1x1x1x16.Idx) := by
      funext a
      fin_cases a
      · exact Subsingleton.elim (α := Fin 1) _ _
      · exact Subsingleton.elim (α := Fin 1) _ _
      · exact Subsingleton.elim (α := Fin 1) _ _
      · rfl
    have e := (congrArg (outS.access (Rect.unit (s := S2x7x8x256) ![b.val, j.val, r.val, 16 * g.val] S1x1x1x16.size h)).emb ex).trans
      (lanes_mem b j r g h (x 3))
    rw [e]
    refine ⟨rfl, rfl, rfl, ?_⟩
    have h3 : (x 3).val < 16 := (x 3).isLt
    show (16 * g.val + (x 3).val) / 16 = g.val
    omega

theorem store_sub (b : Fin 2) (j : Fin 7) (r : Fin 8) (g : Fin 16) (o : Fin 4 → ℕ) (ho : o = ![b.val, j.val, r.val, 16 * g.val]) (h) :
    (outS.access (Rect.unit (s := S2x7x8x256) o S1x1x1x16.size h)).set ⊆ slotO b.val := by
  intro i hi
  subst ho
  rw [View.set_slice_whole] at hi
  have := Rect.mem_set_unit.mp hi 0
  refine mem_slotO.mpr ?_
  simp at this
  omega
theorem load1_sub (b : Fin 2) (p : Fin 9) (r : Fin 8) (g : Fin 16) (o : Fin 4 → ℕ) (ho : o = ![b.val, p.val, r.val, 16 * g.val]) (h) :
    (x1S.access (Rect.unit (s := S2x9x8x256) o S1x1x1x16.size h)).set ⊆ slotX b.val := by
  intro i hi
  subst ho
  rw [View.set_slice_whole] at hi
  have := Rect.mem_set_unit.mp hi 0
  refine mem_slotX.mpr ?_
  simp at this
  omega
theorem load2_sub (b : Fin 2) (p : Fin 9) (r : Fin 8) (g : Fin 16) (o : Fin 4 → ℕ) (ho : o = ![b.val, p.val, r.val, 16 * g.val]) (h) :
    (x2S.access (Rect.unit (s := S2x9x8x256) o S1x1x1x16.size h)).set ⊆ slotX b.val := by
  intro i hi
  subst ho
  rw [View.set_slice_whole] at hi
  have := Rect.mem_set_unit.mp hi 0
  refine mem_slotX.mpr ?_
  simp at this
  omega

/-- What a load of sixteen lanes of operand 1 reads, lane by lane. -/
theorem load1_val (b : Fin 2) (p : Fin 9) (r : Fin 8) (g : Fin 16) (o : Fin 4 → ℕ) (ho : o = ![b.val, p.val, r.val, 16 * g.val]) (h) (f : S2x9x8x256.Idx → F .f32) (l : Fin 16) :
    shapeCast S16 (x1S.view.readAt (Elt F) (Rect.unit (s := S2x9x8x256) o S1x1x1x16.size h).toLoadRect f) shapeCasts_S1x1x1x16_S16 (ix1 l) = f (ix4 b p r (col g l)) := by
  subst ho
  refine Eq.trans ?_ (congrArg f (lanes_mem b p r g h l))
  rw [← cast_in]
  rfl
theorem load2_val (b : Fin 2) (p : Fin 9) (r : Fin 8) (g : Fin 16) (o : Fin 4 → ℕ) (ho : o = ![b.val, p.val, r.val, 16 * g.val]) (h) (f : S2x9x8x256.Idx → F .f32) (l : Fin 16) :
    shapeCast S16 (x2S.view.readAt (Elt F) (Rect.unit (s := S2x9x8x256) o S1x1x1x16.size h).toLoadRect f) shapeCasts_S1x1x1x16_S16 (ix1 l) = f (ix4 b p r (col g l)) := by
  subst ho
  refine Eq.trans ?_ (congrArg f (lanes_mem b p r g h l))
  rw [← cast_in]
  rfl

end Cert.Proof.Sc
-- ==== Proof.TripRun.lean ====
/-
  The program as the launch theorem sees it, and the run of one trip of an inner loop: it leaves the output's scratch with
  seven vectors more at their values, and the operands' scratch as they were.
-/
module

public import proofs.«01_k».proof.Proof.Views

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds and the copies' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F] (d : Dev nD) (L : grid0.Coords)

/-- The tile at coordinates `L`. -/
abbrev thr : Thread nD τ := V d (cV L) (jV L)

/-- A tile's scratch. -/
abbrev s1Loc : Loc nD τ sig := (thr d L).loc cc0_scratch0
abbrev s2Loc : Loc nD τ sig := (thr d L).loc cc0_scratch1
abbrev soLoc : Loc nD τ sig := (thr d L).loc cc0_scratch2
abbrev smLoc : Loc nD τ sig := (thr d L).loc cc0_scratch3

/-- A slot of a scratch holding `f` there. -/
abbrev s1Pts (b : ℕ) (f : S2x9x8x256.Idx → F .f32) : sProp 𝕄 := s1Loc d L ↦[slotX b]{fullShare} f
abbrev s2Pts (b : ℕ) (f : S2x9x8x256.Idx → F .f32) : sProp 𝕄 := s2Loc d L ↦[slotX b]{fullShare} f
abbrev soPts (b : ℕ) (f : S2x7x8x256.Idx → F .f32) : sProp 𝕄 := soLoc d L ↦[slotO b]{fullShare} f

/-- A tile's program runs to `Q`. -/
abbrev run {α : Type} (p : TProg F L α) (Q : α → sProp 𝕄) : sProp 𝕄 :=
  wp frame (wpE (defs₀ (F := F)) 𝒱₀ (thr d L) none) Set.univ p Q

/-! ## Loads and stores of sixteen lanes -/

theorem run_load1 {α : Type} (b : Fin 2) (p : Fin 9) (r : Fin 8) (g : Fin 16) (o : Fin 4 → ℕ) (ho : o = ![b.val, p.val, r.val, 16 * g.val]) (h)
    (f : S2x9x8x256.Idx → F .f32) (k : Vec F S1x1x1x16 .f32 → TProg F L α) (Q : α → sProp 𝕄) :
    s1Pts d L b.val f ⊢ iprop((s1Pts d L b.val f -∗ run d L (k (x1S.view.readAt (Elt F) (Rect.unit (s := S2x9x8x256) o S1x1x1x16.size h).toLoadRect f)) Q)
      -∗ run d L (load1 L o h >>= k) Q) := by
  have hs := load1_sub b p r g o ho h
  iintro Ho Hk
  iapply (wp_load_rect 𝒱₀ (thr d L) none Set.univ (m := x1S) hs) $$ Ho
  iintro Ho
  iapply Hk
  iexact Ho

theorem run_load2 {α : Type} (b : Fin 2) (p : Fin 9) (r : Fin 8) (g : Fin 16) (o : Fin 4 → ℕ) (ho : o = ![b.val, p.val, r.val, 16 * g.val]) (h)
    (f : S2x9x8x256.Idx → F .f32) (k : Vec F S1x1x1x16 .f32 → TProg F L α) (Q : α → sProp 𝕄) :
    s2Pts d L b.val f ⊢ iprop((s2Pts d L b.val f -∗ run d L (k (x2S.view.readAt (Elt F) (Rect.unit (s := S2x9x8x256) o S1x1x1x16.size h).toLoadRect f)) Q)
      -∗ run d L (load2 L o h >>= k) Q) := by
  have hs := load2_sub b p r g o ho h
  iintro Ho Hk
  iapply (wp_load_rect 𝒱₀ (thr d L) none Set.univ (m := x2S) hs) $$ Ho
  iintro Ho
  iapply Hk
  iexact Ho

theorem run_put {α : Type} (b : Fin 2) (j : Fin 7) (r : Fin 8) (g : Fin 16) (o : Fin 4 → ℕ) (ho : o = ![b.val, j.val, r.val, 16 * g.val]) (h)
    (w : FVec F S16 .f32) (f : S2x7x8x256.Idx → F .f32) (k : PUnit → TProg F L α) (Q : α → sProp 𝕄) :
    soPts d L b.val f ⊢ iprop((soPts d L b.val (putAt b j r g (fun l => w (ix1 l)) f) -∗ run d L (k ⟨⟩) Q)
      -∗ run d L (put L o h w >>= k) Q) := by
  have hs := store_sub b j r g o ho h
  iintro Ho Hk
  iapply (wp_load_rect 𝒱₀ (thr d L) none Set.univ (m := outS) hs) $$ Ho
  iintro Ho
  iapply (wp_store 𝒱₀ (thr d L) none Set.univ (m := outS) (Mk := Finset.univ) (r := Rect.unit (s := S2x7x8x256) o S1x1x1x16.size h) hs) $$ Ho
  rw [store_val b j r g o ho h w f]
  iexact Hk

/-! ## The trip -/

/-- What a trip leaves in the output's scratch, slot `b`: its vector of every component at the contraction's value. -/
def tripOut (b : Fin 2) (r : Fin 8) (g : Fin 16) (f1 f2 : S2x9x8x256.Idx → F .f32) (C : Fin 25 → FVec F S16 .f32) (f : S2x7x8x256.Idx → F .f32) :
    S2x7x8x256.Idx → F .f32 := fun i =>
  if (i 2).val = r.val ∧ (i 3).val / 16 = g.val then
    lane (i 1) (fun p => f1 (ix4 b p (i 2) (i 3))) (fun p => f2 (ix4 b p (i 2) (i 3))) (fun q => C q (ix1 ⟨(i 3).val % 16, Nat.mod_lt _ (by omega)⟩))
  else f i

omit [FloatOps F] in
/-- Two points of a row of 256 in the same vector at the same lane are one. -/
theorem col_eta (i : Fin 256) (g : Fin 16) (h : i.val / 16 = g.val) : col g ⟨i.val % 16, Nat.mod_lt _ (by omega)⟩ = i :=
  Fin.ext (by show 16 * g.val + i.val % 16 = i.val; omega)

/-- The seven stores of a trip, on the slot they go to. -/
theorem puts_val (b : Fin 2) (r : Fin 8) (g : Fin 16) (f1 f2 : S2x9x8x256.Idx → F .f32) (A B : Fin 9 → FVec F S16 .f32) (C : Fin 25 → FVec F S16 .f32)
    (hA : ∀ p l, A p (ix1 l) = f1 (ix4 b p r (col g l))) (hB : ∀ p l, B p (ix1 l) = f2 (ix4 b p r (col g l))) (f : S2x7x8x256.Idx → F .f32)
    {i : S2x7x8x256.Idx} (hi : i ∈ slotO b.val) :
    putAt b 6 r g (fun l => outV 6 A B C (ix1 l)) (putAt b 5 r g (fun l => outV 5 A B C (ix1 l)) (putAt b 4 r g (fun l => outV 4 A B C (ix1 l))
      (putAt b 3 r g (fun l => outV 3 A B C (ix1 l)) (putAt b 2 r g (fun l => outV 2 A B C (ix1 l)) (putAt b 1 r g (fun l => outV 1 A B C (ix1 l))
      (putAt b 0 r g (fun l => outV 0 A B C (ix1 l)) f)))))) i = tripOut b r g f1 f2 C f i := by
  have hi := mem_slotO.mp hi
  unfold tripOut
  by_cases h : (i 2).val = r.val ∧ (i 3).val / 16 = g.val
  · rw [if_pos h]
    have e2 : (i 2 : Fin 8) = r := Fin.ext h.1
    have e3 : col g ⟨(i 3).val % 16, Nat.mod_lt _ (by omega)⟩ = i 3 := col_eta (i 3) g h.2
    have key : ∀ j : Fin 7, outV j A B C (ix1 ⟨(i 3).val % 16, Nat.mod_lt _ (by omega)⟩)
        = lane j (fun p => f1 (ix4 b p (i 2) (i 3))) (fun p => f2 (ix4 b p (i 2) (i 3))) (fun q => C q (ix1 ⟨(i 3).val % 16, Nat.mod_lt _ (by omega)⟩)) := by
      intro j
      rw [outV_apply]
      simp only [hA, hB, e3]
      rw [← e2]
    have hj : (i 1).val < 7 := (i 1).isLt
    simp only [putAt, hi, h.1, h.2, true_and, and_true]
    refine Eq.trans ?_ (key (i 1))
    have hall : ∀ n : Fin 7, (if n.val = 6 then outV 6 A B C (ix1 ⟨(i 3).val % 16, Nat.mod_lt _ (by omega)⟩)
        else if n.val = 5 then outV 5 A B C (ix1 ⟨(i 3).val % 16, Nat.mod_lt _ (by omega)⟩)
        else if n.val = 4 then outV 4 A B C (ix1 ⟨(i 3).val % 16, Nat.mod_lt _ (by omega)⟩)
        else if n.val = 3 then outV 3 A B C (ix1 ⟨(i 3).val % 16, Nat.mod_lt _ (by omega)⟩)
        else if n.val = 2 then outV 2 A B C (ix1 ⟨(i 3).val % 16, Nat.mod_lt _ (by omega)⟩)
        else if n.val = 1 then outV 1 A B C (ix1 ⟨(i 3).val % 16, Nat.mod_lt _ (by omega)⟩)
        else if n.val = 0 then outV 0 A B C (ix1 ⟨(i 3).val % 16, Nat.mod_lt _ (by omega)⟩) else f i)
          = outV n A B C (ix1 ⟨(i 3).val % 16, Nat.mod_lt _ (by omega)⟩) := by
      intro n
      fin_cases n <;> simp
    exact hall (i 1)
  · rw [if_neg h]
    have : ∀ j : Fin 7, ¬ ((i 0).val = b.val ∧ (i 1).val = j.val ∧ (i 2).val = r.val ∧ (i 3).val / 16 = g.val) := fun j hh => h hh.2.2
    simp only [putAt, this, if_false]

theorem run_trip (b : Fin 2) (r : Fin 8) (g : Fin 16) (ox) (hx) (oo) (ho)
    (hox : ∀ p : Fin 9, ox p = ![b.val, p.val, r.val, 16 * g.val]) (hoo : ∀ j : Fin 7, oo j = ![b.val, j.val, r.val, 16 * g.val])
    (C : Fin 25 → FVec F S16 .f32) (f1 f2 : S2x9x8x256.Idx → F .f32) (f : S2x7x8x256.Idx → F .f32) :
    iprop(s1Pts d L b.val f1 ∗ s2Pts d L b.val f2 ∗ soPts d L b.val f)
      ⊢ run d L (trip L ox hx oo ho C) fun _ => iprop(s1Pts d L b.val f1 ∗ s2Pts d L b.val f2 ∗ soPts d L b.val (tripOut b r g f1 f2 C f)) := by
  unfold trip
  iintro ⟨H1, H2, Ho⟩
  iapply (run_load1 d L b 0 r g (ox 0) (hox 0) (hx 0) f1) $$ H1; iintro H1
  iapply (run_load1 d L b 1 r g (ox 1) (hox 1) (hx 1) f1) $$ H1; iintro H1
  iapply (run_load1 d L b 2 r g (ox 2) (hox 2) (hx 2) f1) $$ H1; iintro H1
  iapply (run_load1 d L b 3 r g (ox 3) (hox 3) (hx 3) f1) $$ H1; iintro H1
  iapply (run_load1 d L b 4 r g (ox 4) (hox 4) (hx 4) f1) $$ H1; iintro H1
  iapply (run_load1 d L b 5 r g (ox 5) (hox 5) (hx 5) f1) $$ H1; iintro H1
  iapply (run_load1 d L b 6 r g (ox 6) (hox 6) (hx 6) f1) $$ H1; iintro H1
  iapply (run_load1 d L b 7 r g (ox 7) (hox 7) (hx 7) f1) $$ H1; iintro H1
  iapply (run_load1 d L b 8 r g (ox 8) (hox 8) (hx 8) f1) $$ H1; iintro H1
  iapply (run_load2 d L b 0 r g (ox 0) (hox 0) (hx 0) f2) $$ H2; iintro H2
  iapply (run_load2 d L b 1 r g (ox 1) (hox 1) (hx 1) f2) $$ H2; iintro H2
  iapply (run_load2 d L b 2 r g (ox 2) (hox 2) (hx 2) f2) $$ H2; iintro H2
  iapply (run_load2 d L b 3 r g (ox 3) (hox 3) (hx 3) f2) $$ H2; iintro H2
  iapply (run_load2 d L b 4 r g (ox 4) (hox 4) (hx 4) f2) $$ H2; iintro H2
  iapply (run_load2 d L b 5 r g (ox 5) (hox 5) (hx 5) f2) $$ H2; iintro H2
  iapply (run_load2 d L b 6 r g (ox 6) (hox 6) (hx 6) f2) $$ H2; iintro H2
  iapply (run_load2 d L b 7 r g (ox 7) (hox 7) (hx 7) f2) $$ H2; iintro H2
  iapply (run_load2 d L b 8 r g (ox 8) (hox 8) (hx 8) f2) $$ H2; iintro H2
  iapply (run_put d L b 0 r g (oo 0) (hoo 0) (ho 0)) $$ Ho; iintro Ho
  iapply (run_put d L b 1 r g (oo 1) (hoo 1) (ho 1)) $$ Ho; iintro Ho
  iapply (run_put d L b 2 r g (oo 2) (hoo 2) (ho 2)) $$ Ho; iintro Ho
  iapply (run_put d L b 3 r g (oo 3) (hoo 3) (ho 3)) $$ Ho; iintro Ho
  iapply (run_put d L b 4 r g (oo 4) (hoo 4) (ho 4)) $$ Ho; iintro Ho
  iapply (run_put d L b 5 r g (oo 5) (hoo 5) (ho 5)) $$ Ho; iintro Ho
  iapply (run_put d L b 6 r g (oo 6) (hoo 6) (ho 6)) $$ Ho; iintro Ho
  iapply (le_wp_ret frame _ _ _ _)
  isplitl [H1]; · iexact H1
  isplitl [H2]; · iexact H2
  refine Entails.of_eq (pointsTo_congr fun i hi => puts_val b r g f1 f2 _ _ C ?_ ?_ f hi)
  · intro p l
    fin_cases p
    · exact load1_val b 0 r g (ox 0) (hox 0) (hx 0) f1 l
    · exact load1_val b 1 r g (ox 1) (hox 1) (hx 1) f1 l
    · exact load1_val b 2 r g (ox 2) (hox 2) (hx 2) f1 l
    · exact load1_val b 3 r g (ox 3) (hox 3) (hx 3) f1 l
    · exact load1_val b 4 r g (ox 4) (hox 4) (hx 4) f1 l
    · exact load1_val b 5 r g (ox 5) (hox 5) (hx 5) f1 l
    · exact load1_val b 6 r g (ox 6) (hox 6) (hx 6) f1 l
    · exact load1_val b 7 r g (ox 7) (hox 7) (hx 7) f1 l
    · exact load1_val b 8 r g (ox 8) (hox 8) (hx 8) f1 l
  · intro p l
    fin_cases p
    · exact load2_val b 0 r g (ox 0) (hox 0) (hx 0) f2 l
    · exact load2_val b 1 r g (ox 1) (hox 1) (hx 1) f2 l
    · exact load2_val b 2 r g (ox 2) (hox 2) (hx 2) f2 l
    · exact load2_val b 3 r g (ox 3) (hox 3) (hx 3) f2 l
    · exact load2_val b 4 r g (ox 4) (hox 4) (hx 4) f2 l
    · exact load2_val b 5 r g (ox 5) (hox 5) (hx 5) f2 l
    · exact load2_val b 6 r g (ox 6) (hox 6) (hx 6) f2 l
    · exact load2_val b 7 r g (ox 7) (hox 7) (hx 7) f2 l
    · exact load2_val b 8 r g (ox 8) (hox 8) (hx 8) f2 l

end Cert.Proof.Sc
-- ==== Proof.Copies.lean ====
/-
  The rules of the tile's copies: starting one hands its ends to the copy in flight, waiting for it gives them back, the
  destination at what the copy wrote.
-/
module

public import proofs.«01_k».proof.Proof.TripRun

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## What is owed while the tile runs -/

/-- What the tile owes, with every wait recorded since at the copies' own index. -/
def due (O : CellTallies nD τ sig (HIx 1)) (W : Waits sig (HIx 1)) : sProp 𝕄 :=
  iprop(Transfers.MayWaits (thr d L) (default : HIx 1) O ∗ ∃ W', ⌜∀ p ∈ W', p ∈ W ∨ p.2 = none⌝ ∗ owes (thr d L) O W')

/-- A copy in flight carries along whatever is handed to it. -/
theorem flight_frame {c : Thread nD τ} {sm : SemLoc sig} {ι : HIx 1} {N : ℕ} {A R : sProp 𝕄} :
    iprop(Transfers.Flight countersEmb c sm ι N A ∗ R) ⊢ (Transfers.Flight countersEmb c sm ι N iprop(A ∗ R) : sProp 𝕄) := by
  unfold Transfers.Flight
  iintro ⟨⟨⟨%R₀, HR₀, %hcap, %hpeek⟩, Hcred⟩, HR⟩
  isplitl [HR₀ HR]
  · iexists iprop(R₀ ∗ R)
    isplitl [HR₀ HR]; · isplitl [HR₀] <;> iassumption
    isplit
    · ipureintro
      intro K
      refine BIBase.Entails.trans ?_ (hcap K)
      iintro ⟨⟨HR₀, HR⟩, HK⟩
      isplitl [HR₀]; · iexact HR₀
      iintro ⟨Hv, HA⟩
      iapply HK
      isplitl [Hv]; · iexact Hv
      isplitl [HA] <;> iassumption
    · ipureintro
      intro K
      refine BIBase.Entails.trans ?_ (hpeek K)
      iintro ⟨⟨HR₀, HR⟩, HK⟩
      isplitl [HR₀]; · iexact HR₀
      iintro HR₀
      iapply HK
      isplitl [HR₀] <;> iassumption
  · iexact Hcred

/-! ## Starting a copy -/

/-- A copy out of a whole buffer held at a share into elements held in full: the copy in flight delivers the destination
    rewritten and the source's share back. -/
theorem run_copy {α : Type} {sp sp' : Space} {s : Shape} {e : EltTy} {src : Memref sig .scVector sp s e} {dst : Memref sig .scVector sp' s e}
    {sem : DmaSem sig} {hsrc : src.view.WordExact} {hdst : dst.view.WordExact} {hsem : DmaTarget.Typed (nD := nD) (p := Proc.scVector (cV L) (jV L)) sp (SemLoc.dma sem) (.here dst)}
    {S : Finset (Idx (src.view.loc (thr d L)))} {q : PosShare TreeShare} {fs : Buf (Elt F) (src.view.loc (thr d L))} {fd : Buf (Elt F) (dst.view.loc (thr d L))}
    (N : ℕ) (hN : dst.view.amount (SemLoc.dma sem) = N) (hN0 : 0 < N) (hS : src.view.set ⊆ S) (k : PUnit → TProg F L α) (Q : α → sProp 𝕄) :
    iprop((src.view.loc (thr d L) ↦[S]{q} fs) ∗ (dst.view.loc (thr d L) ↦[dst.view.set]{fullShare} fd) ∗ semVal (thr d L, SemLoc.dma sem) 0)
      ⊢ iprop((Transfers.Flight countersEmb (thr d L) (SemLoc.dma sem) (default : HIx 1) N
            iprop((dst.view.loc (thr d L) ↦[dst.view.set]{fullShare} (dst.view.write (Elt F) fd (src.view.read (Elt F) fs) Finset.univ)) ∗ (src.view.loc (thr d L) ↦[S]{q} fs))
          -∗ run d L (k ⟨⟩) Q) -∗ run d L (.op (.enqueueDma src (.here dst) (.dma sem) hsrc hdst hsem) k) Q) := by
  have hback : iprop(((dst.view.loc (thr d L) ↦[dst.view.set]{fullShare} (dst.view.write (Elt F) fd (src.view.read (Elt F) fs) Finset.univ))
        ∗ (src.view.loc (thr d L) ↦[src.view.set]{q} fs)) ∗ (src.view.loc (thr d L) ↦[S \ src.view.set]{q} fs))
      ⊢ (iprop((dst.view.loc (thr d L) ↦[dst.view.set]{fullShare} (dst.view.write (Elt F) fd (src.view.read (Elt F) fs) Finset.univ))
        ∗ (src.view.loc (thr d L) ↦[S]{q} fs)) : sProp 𝕄) := by
    iintro ⟨⟨Hd, Hs⟩, Hr⟩
    isplitl [Hd]; · iexact Hd
    iapply (pointsTo_split_subset (q := q) (f := fs) hS).2
    isplitl [Hs] <;> iassumption
  iintro ⟨Hs, Hd, Hv⟩ Hk
  ihave Hs2 := (pointsTo_split_subset (q := q) (f := fs) hS).1 $$ Hs
  icases Hs2 with ⟨Hs, Hr⟩
  iapply (Transfers.wp_dmaLocal countersEmb 𝒱₀ (thr d L) none (default : HIx 1) N hN hN0 (Finset.Subset.refl _)) $$ [Hs Hd Hv]
  · isplitl [Hs]; · iexact Hs
    isplitl [Hd] <;> iassumption
  iintro Hf
  iapply Hk
  iapply (flight_frame.trans (Transfers.Flight_mono countersEmb (thr d L) hback))
  isplitl [Hf] <;> iassumption

/-- Waiting for a copy in flight gives what it delivers, and its counter back at zero. -/
theorem run_await {α : Type} {sp sp' : Space} {s s' : Shape} {e e' : EltTy} {src : Memref sig .scVector sp' s' e'} {dst : Memref sig .scVector sp s e}
    {sem : DmaSem sig} {hsrc : src.view.WordExact} {hdst : dst.view.WordExact} (N : ℕ) (hN : dst.view.dmaCredit = N) {A : sProp 𝕄}
    {O : CellTallies nD τ sig (HIx 1)} {W : Waits sig (HIx 1)} (k : PUnit → TProg F L α) (Q : α → sProp 𝕄) :
    iprop(Transfers.Flight countersEmb (thr d L) (SemLoc.dma sem) (default : HIx 1) N A ∗ due d L O W)
      ⊢ iprop((iprop(A ∗ semVal (thr d L, SemLoc.dma sem) 0 ∗ due d L O W) -∗ run d L (k ⟨⟩) Q)
          -∗ run d L (.op (.waitDma2 sem src dst hsrc hdst) k) Q) := by
  unfold due
  iintro ⟨Hf, #Hmw, %W', %hW', HO⟩ Hk
  iapply (Transfers.wp_waitLocalO countersEmb 𝒱₀ (thr d L) none (default : HIx 1) hN) $$ [Hf HO]
  · isplitl [Hf]; · iexact Hf
    isplitl [HO]; · iexact HO
    iapply (Transfers.MayWaits.elim (SemLoc.dma sem)) $$ Hmw
  iintro ⟨HA, Hv, HO⟩
  iapply Hk
  isplitl [HA]; · iexact HA
  isplitl [Hv]; · iexact Hv
  isplitr; · iexact Hmw
  iexists _
  isplitr
  swap; · iexact HO
  ipureintro
  intro p hp
  rcases Finset.mem_insert.mp hp with hp | hp
  · exact .inr (hp ▸ rfl)
  · exact hW' p hp

/-! ## The kernel's copies -/

/-- The call's arrays. -/
abbrev x1Loc (d : Dev nD) : Loc nD τ sig := (SparseCore.T d).loc main_v0
abbrev x2Loc (d : Dev nD) : Loc nD τ sig := (SparseCore.T d).loc main_v1
abbrev muLoc (d : Dev nD) : Loc nD τ sig := (SparseCore.T d).loc main_arg5
abbrev oLoc (d : Dev nD) : Loc nD τ sig := (SparseCore.T d).loc main_v2

/-- A share of operand 1 whole. -/
abbrev x1Pts (q : PosShare TreeShare) (X : S9x4096x256.Idx → F .f32) : sProp 𝕄 := x1Loc d ↦{q} X
/-- A share of operand 2 whole. -/
abbrev x2Pts (q : PosShare TreeShare) (X : S9x4096x256.Idx → F .f32) : sProp 𝕄 := x2Loc d ↦{q} X
/-- A block of the result. -/
abbrev oPts (n : ℕ) (R : S7x4096x256.Idx → F .f32) : sProp 𝕄 := oLoc d ↦[blockO n]{fullShare} R

/-- The units a block's copy counts. -/
abbrev nX : ℕ := (viewX x1S 0 inb_S2x9x8x256_S1x9x8x256_0_0_0_0).view.dmaCredit
abbrev nO : ℕ := (blkO (k0_off41 (fun | 0 => (0 : Fin 2) | 1 => (0 : Fin 16))) (k0_off41_inb _)).view.dmaCredit

/-- Block `n` of operand 1 on its way into slot `b`. -/
def fly1 (sem : DmaSem sig) (b n : ℕ) (q : PosShare TreeShare) (X : S9x4096x256.Idx → F .f32) : sProp 𝕄 :=
  Transfers.Flight countersEmb (thr d L) (SemLoc.dma sem) (default : HIx 1) nX iprop(s1Pts d L b (chunk X n) ∗ x1Pts d q X)
/-- Block `n` of operand 2 on its way into slot `b`. -/
def fly2 (sem : DmaSem sig) (b n : ℕ) (q : PosShare TreeShare) (X : S9x4096x256.Idx → F .f32) : sProp 𝕄 :=
  Transfers.Flight countersEmb (thr d L) (SemLoc.dma sem) (default : HIx 1) nX iprop(s2Pts d L b (chunk X n) ∗ x2Pts d q X)
/-- Slot `b` of the output on its way to block `n` of the result. -/
def flyO (sem : DmaSem sig) (b n : ℕ) (R : S7x4096x256.Idx → F .f32) : sProp 𝕄 :=
  Transfers.Flight countersEmb (thr d L) (SemLoc.dma sem) (default : HIx 1) nO iprop(oPts d n R ∗ soPts d L b (chunkO R n))

theorem run_fetch1 {α : Type} {sem : DmaSem sig} {b n : ℕ} (hn : n < 512) {hb} {o : Fin 3 → ℕ} {h} (ho : o = ![0, 8 * n, 0]) {hsrc hdst hsem}
    {q : PosShare TreeShare} {X : S9x4096x256.Idx → F .f32} {f : S2x9x8x256.Idx → F .f32} (k : PUnit → TProg F L α) (Q : α → sProp 𝕄) :
    iprop(x1Pts d q X ∗ s1Pts d L b f ∗ semVal (thr d L, SemLoc.dma sem) 0)
      ⊢ iprop((fly1 d L sem b n q X -∗ run d L (k ⟨⟩) Q)
        -∗ run d L (.op (.enqueueDma (blkX x1A o h) (.here (viewX x1S b hb)) (.dma sem) hsrc hdst hsem) k) Q) := by
  iintro ⟨Hx, Hs, Hv⟩ Hk
  iapply (run_copy d L (src := blkX x1A o h) (dst := viewX x1S b hb) (S := Finset.univ) nX rfl (View.dmaCredit_pos _ (by decide)) (Finset.subset_univ _)) $$ [Hx Hs Hv]
  · isplitl [Hx]; · iexact Hx
    isplitl [Hs]
    · rw [viewX1_set]; iexact Hs
    iexact Hv
  iintro Hf
  iapply Hk
  unfold fly1
  iapply (Transfers.Flight_mono countersEmb (thr d L) ?_) $$ Hf
  iintro ⟨Hd, Hx⟩
  isplitl [Hd]
  · rw [viewX1_set]
    iapply (Entails.of_eq (pointsTo_congr fun i hi => copy1_val hn b hb o h ho X f hi)) $$ Hd
  iexact Hx

theorem run_fetch2 {α : Type} {sem : DmaSem sig} {b n : ℕ} (hn : n < 512) {hb} {o : Fin 3 → ℕ} {h} (ho : o = ![0, 8 * n, 0]) {hsrc hdst hsem}
    {q : PosShare TreeShare} {X : S9x4096x256.Idx → F .f32} {f : S2x9x8x256.Idx → F .f32} (k : PUnit → TProg F L α) (Q : α → sProp 𝕄) :
    iprop(x2Pts d q X ∗ s2Pts d L b f ∗ semVal (thr d L, SemLoc.dma sem) 0)
      ⊢ iprop((fly2 d L sem b n q X -∗ run d L (k ⟨⟩) Q)
        -∗ run d L (.op (.enqueueDma (blkX x2A o h) (.here (viewX x2S b hb)) (.dma sem) hsrc hdst hsem) k) Q) := by
  iintro ⟨Hx, Hs, Hv⟩ Hk
  iapply (run_copy d L (src := blkX x2A o h) (dst := viewX x2S b hb) (S := Finset.univ) nX rfl (View.dmaCredit_pos _ (by decide)) (Finset.subset_univ _)) $$ [Hx Hs Hv]
  · isplitl [Hx]; · iexact Hx
    isplitl [Hs]
    · rw [viewX2_set]; iexact Hs
    iexact Hv
  iintro Hf
  iapply Hk
  unfold fly2
  iapply (Transfers.Flight_mono countersEmb (thr d L) ?_) $$ Hf
  iintro ⟨Hd, Hx⟩
  isplitl [Hd]
  · rw [viewX2_set]
    iapply (Entails.of_eq (pointsTo_congr fun i hi => copy2_val hn b hb o h ho X f hi)) $$ Hd
  iexact Hx

theorem run_emit {α : Type} {sem : DmaSem sig} {b n : ℕ} (hn : n < 512) {hb} {o : Fin 3 → ℕ} {h} (ho : o = ![0, 8 * n, 0]) {hsrc hdst hsem}
    {R f : S7x4096x256.Idx → F .f32} (k : PUnit → TProg F L α) (Q : α → sProp 𝕄) :
    iprop(soPts d L b (chunkO R n) ∗ oPts d n f ∗ semVal (thr d L, SemLoc.dma sem) 0)
      ⊢ iprop((flyO d L sem b n R -∗ run d L (k ⟨⟩) Q)
        -∗ run d L (.op (.enqueueDma (viewO b hb) (.here (blkO o h)) (.dma sem) hsrc hdst hsem) k) Q) := by
  iintro ⟨Hs, Ho, Hv⟩ Hk
  iapply (run_copy d L (src := viewO b hb) (dst := blkO o h) (S := slotO b) nO rfl (View.dmaCredit_pos _ (by decide)) (viewO_set b hb).subset) $$ [Hs Ho Hv]
  · isplitl [Hs]; · iexact Hs
    isplitl [Ho]
    · rw [blkO_set hn o h ho]; iexact Ho
    iexact Hv
  iintro Hf
  iapply Hk
  unfold flyO
  iapply (Transfers.Flight_mono countersEmb (thr d L) ?_) $$ Hf
  iintro ⟨Hd, Hs⟩
  isplitl [Hd]
  · rw [blkO_set hn o h ho]
    iapply (Entails.of_eq (pointsTo_congr fun i hi => copyO_val hn b hb o h ho R f hi)) $$ Hd
  iexact Hs

theorem run_land1 {α : Type} {sem : DmaSem sig} {b b' n : ℕ} {hb} {o : Fin 3 → ℕ} {h} {hsrc hdst} {q : PosShare TreeShare} {X : S9x4096x256.Idx → F .f32}
    {O : CellTallies nD τ sig (HIx 1)} {W : Waits sig (HIx 1)} (k : PUnit → TProg F L α) (Q : α → sProp 𝕄) :
    iprop(fly1 d L sem b n q X ∗ due d L O W)
      ⊢ iprop((iprop((s1Pts d L b (chunk X n) ∗ x1Pts d q X) ∗ semVal (thr d L, SemLoc.dma sem) 0 ∗ due d L O W) -∗ run d L (k ⟨⟩) Q)
          -∗ run d L (.op (.waitDma2 sem (blkX x1A o h) (viewX x1S b' hb) hsrc hdst) k) Q) :=
  run_await d L (src := blkX x1A o h) (dst := viewX x1S b' hb) nX rfl k Q

theorem run_land2 {α : Type} {sem : DmaSem sig} {b b' n : ℕ} {hb} {o : Fin 3 → ℕ} {h} {hsrc hdst} {q : PosShare TreeShare} {X : S9x4096x256.Idx → F .f32}
    {O : CellTallies nD τ sig (HIx 1)} {W : Waits sig (HIx 1)} (k : PUnit → TProg F L α) (Q : α → sProp 𝕄) :
    iprop(fly2 d L sem b n q X ∗ due d L O W)
      ⊢ iprop((iprop((s2Pts d L b (chunk X n) ∗ x2Pts d q X) ∗ semVal (thr d L, SemLoc.dma sem) 0 ∗ due d L O W) -∗ run d L (k ⟨⟩) Q)
          -∗ run d L (.op (.waitDma2 sem (blkX x2A o h) (viewX x2S b' hb) hsrc hdst) k) Q) :=
  run_await d L (src := blkX x2A o h) (dst := viewX x2S b' hb) nX rfl k Q

theorem run_sent {α : Type} {sem : DmaSem sig} {b b' n : ℕ} {hb} {o : Fin 3 → ℕ} {h} {hsrc hdst} {R : S7x4096x256.Idx → F .f32}
    {O : CellTallies nD τ sig (HIx 1)} {W : Waits sig (HIx 1)} (k : PUnit → TProg F L α) (Q : α → sProp 𝕄) :
    iprop(flyO d L sem b n R ∗ due d L O W)
      ⊢ iprop((iprop((oPts d n R ∗ soPts d L b (chunkO R n)) ∗ semVal (thr d L, SemLoc.dma sem) 0 ∗ due d L O W) -∗ run d L (k ⟨⟩) Q)
          -∗ run d L (.op (.waitDma2 sem (viewO b' hb) (blkO o h) hsrc hdst) k) Q) :=
  run_await d L (src := viewO b' hb) (dst := blkO o h) nO rfl k Q

end Cert.Proof.Sc
-- ==== Proof.Offsets.lean ====
/-
  The offsets of the vectors an inner loop's trip works at, in closed form.
-/
module

public import proofs.«01_k».proof.Proof.Trip

@[expose] public section

noncomputable section

namespace Cert.Proof.Sc

open Cert.KernelIdeal Cert.KernelIdeal.Gen
open Idealize.ShloMosaic

/-! ## The inner loops' offsets -/

/-- The row and the vector a trip of an inner loop works at. -/
def tr (t : Fin 128) : Fin 8 := ⟨t.val / 16, by omega⟩
def tg (t : Fin 128) : Fin 16 := ⟨t.val % 16, by omega⟩

theorem ox0_eq : ∀ (t : Fin k0_t2_loop.trips) (p : Fin 9), ox0 t p = ![(0 : Fin 2).val, p.val, (tr t).val, 16 * (tg t).val] := by decide +kernel
theorem oo0_eq : ∀ (t : Fin k0_t2_loop.trips) (j : Fin 7), oo0 t j = ![(0 : Fin 2).val, j.val, (tr t).val, 16 * (tg t).val] := by decide +kernel
theorem ox1_eq : ∀ (t : Fin k0_t3_loop.trips) (p : Fin 9), ox1 t p = ![(1 : Fin 2).val, p.val, (tr t).val, 16 * (tg t).val] := by decide +kernel
theorem oo1_eq : ∀ (t : Fin k0_t3_loop.trips) (j : Fin 7), oo1 t j = ![(1 : Fin 2).val, j.val, (tr t).val, 16 * (tg t).val] := by decide +kernel

end Cert.Proof.Sc
-- ==== Proof.InnerLoop.lean ====
/-
  The two inner loops: a trip each for the 128 vectors of a block's eight rows; together they fill the output's slot with
  the block of the contraction.
-/
module

public import proofs.«01_k».proof.Proof.TripRun
public import proofs.«01_k».proof.Proof.Offsets

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-- What the inner loop over a slot leaves in the output's slot. -/
def fill (b : Fin 2) (f1 f2 : S2x9x8x256.Idx → F .f32) (cs : Fin 25 → F .f32) : S2x7x8x256.Idx → F .f32 := fun i =>
  lane (i 1) (fun p => f1 (ix4 b p (i 2) (i 3))) (fun p => f2 (ix4 b p (i 2) (i 3))) cs

/-- After `k` trips: the vectors of the trips so far are filled. -/
def upto (b : Fin 2) (f1 f2 : S2x9x8x256.Idx → F .f32) (cs : Fin 25 → F .f32) (k : ℕ) : sProp 𝕄 :=
  iprop(s1Pts d L b.val f1 ∗ s2Pts d L b.val f2
    ∗ ∃ g : S2x7x8x256.Idx → F .f32, ⌜∀ i ∈ slotO b.val, 16 * (i 2).val + (i 3).val / 16 < k → g i = fill b f1 f2 cs i⌝ ∗ soPts d L b.val g)

theorem upto_step (b : Fin 2) (t : Fin 128) (ox) (hx) (oo) (ho)
    (hox : ∀ p : Fin 9, ox p = ![b.val, p.val, (tr t).val, 16 * (tg t).val]) (hoo : ∀ j : Fin 7, oo j = ![b.val, j.val, (tr t).val, 16 * (tg t).val])
    (C : Fin 25 → FVec F S16 .f32) (cs : Fin 25 → F .f32) (hC : ∀ q l, C q (ix1 l) = cs q) (f1 f2 : S2x9x8x256.Idx → F .f32) :
    upto d L b f1 f2 cs t.val ⊢ run d L (trip L ox hx oo ho C) fun _ => upto d L b f1 f2 cs (t.val + 1) := by
  unfold upto
  iintro ⟨H1, H2, %g, %hg, Ho⟩
  iapply (wp_wand_r frame _ _)
  isplitl [H1 H2 Ho]
  · iapply (run_trip d L b (tr t) (tg t) ox hx oo ho hox hoo C f1 f2 g)
    isplitl [H1]; · iexact H1
    isplitl [H2] <;> iassumption
  iintro %_ ⟨H1, H2, Ho⟩
  isplitl [H1]; · iexact H1
  isplitl [H2]; · iexact H2
  iexists _
  isplitr
  swap; · iexact Ho
  ipureintro
  intro i hi hlt
  unfold tripOut
  by_cases h : (i 2).val = (tr t).val ∧ (i 3).val / 16 = (tg t).val
  · rw [if_pos h]
    unfold fill
    exact congrArg _ (funext fun q => hC q _)
  · rw [if_neg h]
    refine hg i hi ?_
    have h3 : (i 3).val < 256 := (i 3).isLt
    have h2 : (i 2).val < 8 := (i 2).isLt
    simp only [tr, tg] at h
    omega

/-- The loop over all 128 vectors fills the slot. -/
theorem upto_all (b : Fin 2) (f1 f2 : S2x9x8x256.Idx → F .f32) (cs : Fin 25 → F .f32) :
    upto d L b f1 f2 cs 128 ⊢ iprop(s1Pts d L b.val f1 ∗ s2Pts d L b.val f2 ∗ soPts d L b.val (fill b f1 f2 cs)) := by
  unfold upto
  iintro ⟨H1, H2, %g, %hg, Ho⟩
  isplitl [H1]; · iexact H1
  isplitl [H2]; · iexact H2
  have e : soPts d L b.val g = soPts d L b.val (fill b f1 f2 cs) := pointsTo_congr fun i hi => hg i hi (by
    have h3 : (i 3).val < 256 := (i 3).isLt
    have h2 : (i 2).val < 8 := (i 2).isLt
    omega)
  rw [← e]
  iexact Ho

theorem upto_none (b : Fin 2) (f1 f2 : S2x9x8x256.Idx → F .f32) (cs : Fin 25 → F .f32) (g : S2x7x8x256.Idx → F .f32) :
    iprop(s1Pts d L b.val f1 ∗ s2Pts d L b.val f2 ∗ soPts d L b.val g) ⊢ upto d L b f1 f2 cs 0 := by
  unfold upto
  iintro ⟨H1, H2, Ho⟩
  isplitl [H1]; · iexact H1
  isplitl [H2]; · iexact H2
  iexists g
  isplitr
  · ipureintro; intro i _ h; omega
  iexact Ho

end Cert.Proof.Sc
-- ==== Proof.ChunkTrip.lean ====
/-
  One trip of the tile's loop over its chunks, two chunks a trip: while a slot's block is computed the other slot's copies
  are under way.
-/
module

public import proofs.«01_k».proof.Proof.Copies
public import proofs.«01_k».proof.Proof.InnerLoop

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## The tile's blocks -/

/-- The block of the tile's chunk `ch`. -/
def blk (L : grid0.Coords) (ch : ℕ) : ℕ := 32 * (L 1).val + 16 * (L 0).val + ch

omit [FloatOps F] in
theorem blk_lt {ch : ℕ} (h : ch < 16) : blk L ch < 512 := by
  have h0 : (L 0).val < 2 := (L 0).isLt
  have h1 : (L 1).val < 16 := (L 1).isLt
  unfold blk
  omega

omit [FloatOps F] in
theorem off_blk {A n : ℕ} (h : A = 8 * n) : (![0, A, 0] : Fin 3 → ℕ) = ![0, 8 * n, 0] := by rw [h]

omit [FloatOps F] in
theorem off1_blk : k0_off1 L = ![0, 8 * blk L 0, 0] := (k0_off1_eq L).trans (off_blk (by unfold blk; omega))
omit [FloatOps F] in
theorem off2_blk (t : Fin k0_t1_loop.trips) : k0_off2 L t = ![0, 8 * blk L (2 * t.val + 1), 0] := (k0_off2_eq L t).trans (off_blk (by unfold blk; omega))
omit [FloatOps F] in
theorem off21_blk (t : Fin k0_t1_loop.trips) : k0_off21 L t = ![0, 8 * blk L (2 * t.val), 0] := (k0_off21_eq L t).trans (off_blk (by unfold blk; omega))
omit [FloatOps F] in
theorem off22_blk (t : Fin k0_t1_loop.trips) : k0_off22 L t = ![0, 8 * blk L (2 * t.val + 2), 0] := (k0_off22_eq L t).trans (off_blk (by unfold blk; omega))
omit [FloatOps F] in
theorem off40_blk (t : Fin k0_t1_loop.trips) : k0_off40 L t = ![0, 8 * blk L (2 * t.val + 1), 0] := (k0_off40_eq L t).trans (off_blk (by unfold blk; omega))

omit [FloatOps F] in
theorem cond1_iff : ∀ t : Fin k0_t1_loop.trips, k0_cond1 t = 1#1 ↔ t.val ≠ 0 := by decide +kernel
omit [FloatOps F] in
theorem cond2_iff : ∀ t : Fin k0_t1_loop.trips, k0_cond2 t = 1#1 ↔ t.val + 1 < 8 := by decide +kernel
omit [FloatOps F] in
theorem cond3_iff : ∀ t : Fin k0_t1_loop.trips, k0_cond3 t = 1#1 ↔ t.val ≠ 0 := by decide +kernel
omit [FloatOps F] in
theorem trip_lt (t : Fin k0_t1_loop.trips) : t.val < 8 := t.isLt.trans_le (by decide)

/-! ## The inner loops, run -/

theorem run_slot0 (C : Fin 25 → FVec F S16 .f32) (cs : Fin 25 → F .f32) (hC : ∀ q l, C q (ix1 l) = cs q) (v2 : BitVec 32) (t1 : Fin k0_t1_loop.trips) (arg16 : BitVec 32)
    (f1 f2 : S2x9x8x256.Idx → F .f32) (g : S2x7x8x256.Idx → F .f32) :
    iprop(s1Pts d L 0 f1 ∗ s2Pts d L 0 f2 ∗ soPts d L 0 g)
      ⊢ run d L (Scf.Loop.for k0_t2_loop k0_t2_ok 0#32 (k0_t2_body L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2 (C 0) (C 1) (C 2) (C 3) (C 4) (C 5) (C 6) (C 7) (C 8) (C 9) (C 10) (C 11) (C 12) (C 13) (C 14) (C 15) (C 16) (C 17) (C 18) (C 19) (C 20) (C 21) (C 22) (C 23) (C 24) t1 arg16))
          fun _ => iprop(s1Pts d L 0 f1 ∗ s2Pts d L 0 f2 ∗ soPts d L 0 (fill 0 f1 f2 cs)) := by
  have hbody : ∀ (t : Fin k0_t2_loop.trips) (acc : BitVec 32), upto d L 0 f1 f2 cs t.val
      ⊢ run d L (k0_t2_body L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2 (C 0) (C 1) (C 2) (C 3) (C 4) (C 5) (C 6) (C 7) (C 8) (C 9) (C 10) (C 11) (C 12) (C 13) (C 14) (C 15) (C 16) (C 17) (C 18) (C 19) (C 20) (C 21) (C 22) (C 23) (C 24) t1 arg16 t acc) fun _ => upto d L 0 f1 f2 cs (t.val + 1) := by
    intro t acc
    rw [slot0_trip]
    exact upto_step d L 0 t _ _ _ _ (ox0_eq t) (oo0_eq t) C cs hC f1 f2
  iintro H
  iapply (Scf.wp_for frame (wpE (defs₀ (F := F)) 𝒱₀ (thr d L) none) Set.univ _ _ _ k0_t2_ok _ _ (fun k _ => upto d L 0 f1 f2 cs k) hbody)
  isplitl
  · iapply (upto_none d L 0 f1 f2 cs g); iexact H
  · iintro %_ H
    iapply (upto_all d L 0 f1 f2 cs); iexact H

theorem run_slot1 (C : Fin 25 → FVec F S16 .f32) (cs : Fin 25 → F .f32) (hC : ∀ q l, C q (ix1 l) = cs q) (v2 : BitVec 32) (t1 : Fin k0_t1_loop.trips) (arg16 v293 c0 : BitVec 32)
    (f1 f2 : S2x9x8x256.Idx → F .f32) (g : S2x7x8x256.Idx → F .f32) :
    iprop(s1Pts d L 1 f1 ∗ s2Pts d L 1 f2 ∗ soPts d L 1 g)
      ⊢ run d L (Scf.Loop.for k0_t3_loop k0_t3_ok 0#32 (k0_t3_body L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2 (C 0) (C 1) (C 2) (C 3) (C 4) (C 5) (C 6) (C 7) (C 8) (C 9) (C 10) (C 11) (C 12) (C 13) (C 14) (C 15) (C 16) (C 17) (C 18) (C 19) (C 20) (C 21) (C 22) (C 23) (C 24) t1 arg16 v293 c0))
          fun _ => iprop(s1Pts d L 1 f1 ∗ s2Pts d L 1 f2 ∗ soPts d L 1 (fill 1 f1 f2 cs)) := by
  have hbody : ∀ (t : Fin k0_t3_loop.trips) (acc : BitVec 32), upto d L 1 f1 f2 cs t.val
      ⊢ run d L (k0_t3_body L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2 (C 0) (C 1) (C 2) (C 3) (C 4) (C 5) (C 6) (C 7) (C 8) (C 9) (C 10) (C 11) (C 12) (C 13) (C 14) (C 15) (C 16) (C 17) (C 18) (C 19) (C 20) (C 21) (C 22) (C 23) (C 24) t1 arg16 v293 c0 t acc) fun _ => upto d L 1 f1 f2 cs (t.val + 1) := by
    intro t acc
    rw [slot1_trip]
    exact upto_step d L 1 t _ _ _ _ (ox1_eq t) (oo1_eq t) C cs hC f1 f2
  iintro H
  iapply (Scf.wp_for frame (wpE (defs₀ (F := F)) 𝒱₀ (thr d L) none) Set.univ _ _ _ k0_t3_ok _ _ (fun k _ => upto d L 1 f1 f2 cs k) hbody)
  isplitl
  · iapply (upto_none d L 1 f1 f2 cs g); iexact H
  · iintro %_ H
    iapply (upto_all d L 1 f1 f2 cs); iexact H

/-- The block the inner loop makes of two blocks of the operands is that of the contraction. -/
theorem fill_chunk (b : Fin 2) (X1 X2 : S9x4096x256.Idx → F .f32) (mu : S80.Idx → F .f32) (n : ℕ) :
    fill b (chunk X1 n) (chunk X2 n) (coef mu) = chunkO (result X1 X2 mu) n := rfl

/-! ## What the tile holds of its slots between the parts of a trip -/

/-- An operands' slot with nothing under way: its contents, the shares its copies read, its counters at zero. -/
def idle (b : ℕ) (sa sb : DmaSem sig) (q : PosShare TreeShare) (X1 X2 : S9x4096x256.Idx → F .f32) : sProp 𝕄 :=
  iprop((∃ f, s1Pts d L b f) ∗ x1Pts d q X1 ∗ semVal (thr d L, SemLoc.dma sa) 0 ∗ (∃ f, s2Pts d L b f) ∗ x2Pts d q X2 ∗ semVal (thr d L, SemLoc.dma sb) 0)
/-- Both operands' block `n` on its way into a slot. -/
def fetching (b n : ℕ) (sa sb : DmaSem sig) (q : PosShare TreeShare) (X1 X2 : S9x4096x256.Idx → F .f32) : sProp 𝕄 :=
  iprop(fly1 d L sa b n q X1 ∗ fly2 d L sb b n q X2)
/-- The output's slot with nothing under way. -/
def idleO (b : ℕ) (s : DmaSem sig) : sProp 𝕄 :=
  iprop((∃ g, soPts d L b g) ∗ semVal (thr d L, SemLoc.dma s) 0)
/-- The output's slot before trip `k`: nothing under way before the first, its last block's copy after. -/
def leaving (k b n : ℕ) (s : DmaSem sig) (R : S7x4096x256.Idx → F .f32) : sProp 𝕄 :=
  if k = 0 then idleO d L b s else flyO d L s b n R
/-- The block the output's slot held before trip `k`, once sent. -/
def sent (k n : ℕ) (R : S7x4096x256.Idx → F .f32) : sProp 𝕄 := if k = 0 then iprop(emp) else oPts d n R
/-- The operands' slot 0 before trip `k`: the trip's first block under way, or, after the last trip, nothing. -/
def coming (k : ℕ) (q : PosShare TreeShare) (X1 X2 : S9x4096x256.Idx → F .f32) : sProp 𝕄 :=
  if k < 8 then fetching d L 0 (blk L (2 * k)) cc0_scratch4.sem cc0_scratch6.sem q X1 X2 else idle d L 0 cc0_scratch4.sem cc0_scratch6.sem q X1 X2

/-- A program run, then what follows it. -/
theorem run_then {α β : Type} {P : sProp 𝕄} {p : TProg F L α} {Q' : α → sProp 𝕄} (h : P ⊢ run d L p Q') {k : α → TProg F L β} {Q : β → sProp 𝕄} :
    P ⊢ iprop((∀ x, Q' x -∗ run d L (k x) Q) -∗ run d L (p >>= k) Q) := by
  unfold run
  iintro H Hk
  rw [wp_bind]
  iapply (wp_wand_r frame _ _)
  isplitl [H]
  · iapply h; iexact H
  iintro %x HQ
  iapply Hk
  iexact HQ
/-- A test decided. -/
theorem run_pos {α : Type} {c : Prop} [Decidable c] (h : c) {p : c → TProg F L α} {r : ¬c → TProg F L α} {Q : α → sProp 𝕄} :
    run d L (p h) Q ⊢ run d L (dite c p r) Q := by
  rw [dif_pos h]
theorem run_neg {α : Type} {c : Prop} [Decidable c] (h : ¬c) {p : c → TProg F L α} {r : ¬c → TProg F L α} {Q : α → sProp 𝕄} :
    run d L (r h) Q ⊢ run d L (dite c p r) Q := by
  rw [dif_neg h]

/-! ## The parts of a trip -/

/-- The trip's first part starts the copies of its second block. -/
theorem run_part15 (v2 c0 c1 : BitVec 32) (t : Fin k0_t1_loop.trips) (q : PosShare TreeShare) (X1 X2 : S9x4096x256.Idx → F .f32) :
    idle d L 1 cc0_scratch5.sem cc0_scratch7.sem q X1 X2
      ⊢ run d L (k0_part15 L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2 c0 c1 t)
          fun _ => fetching d L 1 (blk L (2 * t.val + 1)) cc0_scratch5.sem cc0_scratch7.sem q X1 X2 := by
  have hn : blk L (2 * t.val + 1) < 512 := blk_lt L (by have := trip_lt t; omega)
  rw [k0_part15_eq_skeleton]
  unfold k0_part15_skel idle fetching
  iintro ⟨⟨%f1, H1⟩, Hx1, Hv1, ⟨%f2, H2⟩, Hx2, Hv2⟩
  iapply (run_fetch1 d L hn (off2_blk L t)) $$ [H1 Hx1 Hv1]
  · isplitl [Hx1]; · iexact Hx1
    isplitl [H1] <;> iassumption
  iintro Hf1
  iapply (run_fetch2 d L hn (off2_blk L t)) $$ [H2 Hx2 Hv2]
  · isplitl [Hx2]; · iexact Hx2
    isplitl [H2] <;> iassumption
  iintro Hf2
  iapply (le_wp_ret frame _ _ _ _)
  isplitl [Hf1] <;> iassumption

set_option maxHeartbeats 1000000 in
/-- The second part waits for its first block, frees the output's slot 0, computes there and sends it off. -/
theorem run_part16 (C : Fin 25 → FVec F S16 .f32) (mu : S80.Idx → F .f32) (hC : ∀ q l, C q (ix1 l) = coef mu q) (v2 : BitVec 32) (t : Fin k0_t1_loop.trips) (arg16 : BitVec 32)
    (q : PosShare TreeShare) (X1 X2 : S9x4096x256.Idx → F .f32) (f : S7x4096x256.Idx → F .f32) (O : CellTallies nD τ sig (HIx 1)) (W : Waits sig (HIx 1)) :
    iprop(fetching d L 0 (blk L (2 * t.val)) cc0_scratch4.sem cc0_scratch6.sem q X1 X2
        ∗ leaving d L t.val 0 (blk L (2 * t.val - 2)) cc0_scratch8.sem (result X1 X2 mu) ∗ oPts d (blk L (2 * t.val)) f ∗ due d L O W)
      ⊢ run d L (k0_part16 L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2 (C 0) (C 1) (C 2) (C 3) (C 4) (C 5) (C 6) (C 7) (C 8) (C 9) (C 10) (C 11) (C 12) (C 13) (C 14) (C 15) (C 16) (C 17) (C 18) (C 19) (C 20) (C 21) (C 22) (C 23) (C 24) t arg16)
          fun _ => iprop(idle d L 0 cc0_scratch4.sem cc0_scratch6.sem q X1 X2 ∗ flyO d L cc0_scratch8.sem 0 (blk L (2 * t.val)) (result X1 X2 mu)
            ∗ sent d t.val (blk L (2 * t.val - 2)) (result X1 X2 mu) ∗ due d L O W) := by
  have hn : blk L (2 * t.val) < 512 := blk_lt L (by have := trip_lt t; omega)
  rw [k0_part16_eq_skeleton]
  unfold k0_part16_skel fetching
  iintro ⟨⟨Hf1, Hf2⟩, Hl, Ho, Hdue⟩
  iapply (run_land1 d L) $$ [Hf1 Hdue]
  · isplitl [Hf1] <;> iassumption
  iintro ⟨⟨H1, Hx1⟩, Hv1, Hdue⟩
  iapply (run_land2 d L) $$ [Hf2 Hdue]
  · isplitl [Hf2] <;> iassumption
  iintro ⟨⟨H2, Hx2⟩, Hv2, Hdue⟩
  by_cases h : t.val = 0
  on_goal 1 =>
    iapply (run_neg d L (fun hc => (cond1_iff t).mp hc h))
    ihave Hio := (show leaving d L t.val 0 _ _ _ ⊢ idleO d L 0 cc0_scratch8.sem from by unfold leaving; rw [if_pos h]) $$ Hl
    ihave Hsent := (show (emp : sProp 𝕄) ⊢ sent d t.val (blk L (2 * t.val - 2)) (result X1 X2 mu) from by unfold sent; rw [if_pos h]) $$ []
    · iempintro
  on_goal 2 =>
    iapply (run_pos d L ((cond1_iff t).mpr h))
    ihave Hl' := (show leaving d L t.val 0 _ _ _ ⊢ flyO d L cc0_scratch8.sem 0 (blk L (2 * t.val - 2)) (result X1 X2 mu) from by unfold leaving; rw [if_neg h]) $$ Hl
    iapply (run_sent d L) $$ [Hl' Hdue]
    · isplitl [Hl'] <;> iassumption
    iintro ⟨⟨Hb, Hs⟩, Hv, Hdue⟩
    ihave Hio := (show iprop(soPts d L 0 (chunkO (result X1 X2 mu) (blk L (2 * t.val - 2))) ∗ semVal (thr d L, SemLoc.dma cc0_scratch8.sem) 0) ⊢ idleO d L 0 cc0_scratch8.sem from by
        unfold idleO; iintro ⟨A, B⟩; isplitl [A]; · iexists _; iexact A
        iexact B) $$ [Hs Hv]
    · isplitl [Hs] <;> iassumption
    ihave Hsent := (show oPts d _ _ ⊢ sent d t.val (blk L (2 * t.val - 2)) (result X1 X2 mu) from by unfold sent; rw [if_neg h]) $$ Hb
  all_goals
    unfold idleO
    icases Hio with ⟨⟨%g, Hs⟩, Hvo⟩
    iapply (run_then d L (run_slot0 d L C (coef mu) hC v2 t arg16 (chunk X1 (blk L (2 * t.val))) (chunk X2 (blk L (2 * t.val))) g)) $$ [H1 H2 Hs]
    · isplitl [H1]; · iexact H1
      isplitl [H2] <;> iassumption
    iintro %_ ⟨H1, H2, Hs⟩
    rw [fill_chunk]
    iapply (run_emit d L hn (off21_blk L t)) $$ [Hs Ho Hvo]
    · isplitl [Hs]; · iexact Hs
      isplitl [Ho] <;> iassumption
    iintro Hfo
    iapply (le_wp_ret frame _ _ _ _)
    unfold idle
    isplitl [H1 Hx1 Hv1 H2 Hx2 Hv2]
    · isplitl [H1]; · iexists _; iexact H1
      isplitl [Hx1]; · iexact Hx1
      isplitl [Hv1]; · iexact Hv1
      isplitl [H2]; · iexists _; iexact H2
      isplitl [Hx2] <;> iassumption
    isplitl [Hfo]; · iexact Hfo
    isplitl [Hsent] <;> iassumption

set_option maxHeartbeats 1600000 in
/-- The last part fetches the next trip's first block, waits for this trip's second, frees the output's slot 1 and computes
    there. -/
theorem run_part17 (C : Fin 25 → FVec F S16 .f32) (mu : S80.Idx → F .f32) (hC : ∀ q l, C q (ix1 l) = coef mu q) (v2 : BitVec 32) (t : Fin k0_t1_loop.trips) (arg16 v293 c0 : BitVec 32)
    (q0 q1 : PosShare TreeShare) (X1 X2 : S9x4096x256.Idx → F .f32) (O : CellTallies nD τ sig (HIx 1)) (W : Waits sig (HIx 1)) :
    iprop(idle d L 0 cc0_scratch4.sem cc0_scratch6.sem q0 X1 X2 ∗ fetching d L 1 (blk L (2 * t.val + 1)) cc0_scratch5.sem cc0_scratch7.sem q1 X1 X2
        ∗ leaving d L t.val 1 (blk L (2 * t.val - 1)) cc0_scratch9.sem (result X1 X2 mu) ∗ due d L O W)
      ⊢ run d L (k0_part17 L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2 (C 0) (C 1) (C 2) (C 3) (C 4) (C 5) (C 6) (C 7) (C 8) (C 9) (C 10) (C 11) (C 12) (C 13) (C 14) (C 15) (C 16) (C 17) (C 18) (C 19) (C 20) (C 21) (C 22) (C 23) (C 24) t arg16 v293 c0)
          fun _ => iprop(coming d L (t.val + 1) q0 X1 X2 ∗ idle d L 1 cc0_scratch5.sem cc0_scratch7.sem q1 X1 X2
            ∗ soPts d L 1 (chunkO (result X1 X2 mu) (blk L (2 * t.val + 1))) ∗ semVal (thr d L, SemLoc.dma cc0_scratch9.sem) 0
            ∗ sent d t.val (blk L (2 * t.val - 1)) (result X1 X2 mu) ∗ due d L O W) := by
  rw [k0_part17_eq_skeleton]
  unfold k0_part17_skel
  iintro ⟨Hi0, Hf, Hl, Hdue⟩
  by_cases h' : t.val + 1 < 8
  on_goal 1 =>
    have hn : blk L (2 * t.val + 2) < 512 := blk_lt L (by omega)
    iapply (run_pos d L ((cond2_iff t).mpr h'))
    unfold idle
    icases Hi0 with ⟨⟨%f1, H1⟩, Hx1, Hv1, ⟨%f2, H2⟩, Hx2, Hv2⟩
    iapply (run_fetch1 d L hn (off22_blk L t)) $$ [H1 Hx1 Hv1]
    · isplitl [Hx1]; · iexact Hx1
      isplitl [H1] <;> iassumption
    iintro Hf1
    iapply (run_fetch2 d L hn (off22_blk L t)) $$ [H2 Hx2 Hv2]
    · isplitl [Hx2]; · iexact Hx2
      isplitl [H2] <;> iassumption
    iintro Hf2
    ihave Hc := (show iprop(fly1 d L cc0_scratch4.sem 0 (blk L (2 * t.val + 2)) q0 X1 ∗ fly2 d L cc0_scratch6.sem 0 (blk L (2 * t.val + 2)) q0 X2) ⊢ coming d L (t.val + 1) q0 X1 X2 from by
        unfold coming fetching; rw [if_pos h', show 2 * (t.val + 1) = 2 * t.val + 2 by omega]) $$ [Hf1 Hf2]
    · isplitl [Hf1] <;> iassumption
  on_goal 2 =>
    iapply (run_neg d L (fun hc => h' ((cond2_iff t).mp hc)))
    ihave Hc := (show idle d L 0 cc0_scratch4.sem cc0_scratch6.sem q0 X1 X2 ⊢ coming d L (t.val + 1) q0 X1 X2 from by unfold coming; rw [if_neg h']) $$ Hi0
  all_goals
    unfold fetching
    icases Hf with ⟨Hf1, Hf2⟩
    iapply (run_land1 d L) $$ [Hf1 Hdue]
    · isplitl [Hf1] <;> iassumption
    iintro ⟨⟨H1, Hx1⟩, Hv1, Hdue⟩
    iapply (run_land2 d L) $$ [Hf2 Hdue]
    · isplitl [Hf2] <;> iassumption
    iintro ⟨⟨H2, Hx2⟩, Hv2, Hdue⟩
    by_cases h : t.val = 0
    on_goal 1 =>
      iapply (run_neg d L (fun hc => (cond3_iff t).mp hc h))
      ihave Hio := (show leaving d L t.val 1 _ _ _ ⊢ idleO d L 1 cc0_scratch9.sem from by unfold leaving; rw [if_pos h]) $$ Hl
      ihave Hsent := (show (emp : sProp 𝕄) ⊢ sent d t.val (blk L (2 * t.val - 1)) (result X1 X2 mu) from by unfold sent; rw [if_pos h]) $$ []
      · iempintro
    on_goal 2 =>
      iapply (run_pos d L ((cond3_iff t).mpr h))
      ihave Hl' := (show leaving d L t.val 1 _ _ _ ⊢ flyO d L cc0_scratch9.sem 1 (blk L (2 * t.val - 1)) (result X1 X2 mu) from by unfold leaving; rw [if_neg h]) $$ Hl
      iapply (run_sent d L) $$ [Hl' Hdue]
      · isplitl [Hl'] <;> iassumption
      iintro ⟨⟨Hb, Hs⟩, Hv, Hdue⟩
      ihave Hio := (show iprop(soPts d L 1 (chunkO (result X1 X2 mu) (blk L (2 * t.val - 1))) ∗ semVal (thr d L, SemLoc.dma cc0_scratch9.sem) 0) ⊢ idleO d L 1 cc0_scratch9.sem from by
          unfold idleO; iintro ⟨A, B⟩; isplitl [A]; · iexists _; iexact A
          iexact B) $$ [Hs Hv]
      · isplitl [Hs] <;> iassumption
      ihave Hsent := (show oPts d _ _ ⊢ sent d t.val (blk L (2 * t.val - 1)) (result X1 X2 mu) from by unfold sent; rw [if_neg h]) $$ Hb
    all_goals
      unfold idleO
      icases Hio with ⟨⟨%g, Hs⟩, Hvo⟩
      iapply (run_then d L (run_slot1 d L C (coef mu) hC v2 t arg16 v293 c0 (chunk X1 (blk L (2 * t.val + 1))) (chunk X2 (blk L (2 * t.val + 1))) g)) $$ [H1 H2 Hs]
      · isplitl [H1]; · iexact H1
        isplitl [H2] <;> iassumption
      iintro %_ ⟨H1, H2, Hs⟩
      rw [fill_chunk]
      iapply (le_wp_ret frame _ _ _ _)
      isplitl [Hc]; · iexact Hc
      try unfold idle
      isplitl [H1 Hx1 Hv1 H2 Hx2 Hv2]
      · isplitl [H1]; · iexists _; iexact H1
        isplitl [Hx1]; · iexact Hx1
        isplitl [Hv1]; · iexact Hv1
        isplitl [H2]; · iexists _; iexact H2
        isplitl [Hx2] <;> iassumption
      isplitl [Hs]; · iexact Hs
      isplitl [Hvo]; · iexact Hvo
      isplitl [Hsent] <;> iassumption

end Cert.Proof.Sc
-- ==== Proof.ChunkLoop.lean ====
/-
  The tile's loop over its sixteen chunks, and what starts and ends it: every block of the output the tile owns comes out as
  the contraction of the operands' block.
-/
module

public import proofs.«01_k».proof.Proof.ChunkTrip

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-- The tile's output blocks that trip `k` and later ones are to write. -/
def todo (k : ℕ) (f : S7x4096x256.Idx → F .f32) : sProp 𝕄 := bigSep (Finset.Ico (2 * k) 16) fun ch => oPts d (blk L ch) f
/-- The tile's output blocks sent off and arrived before trip `k`. -/
def done (k : ℕ) (R : S7x4096x256.Idx → F .f32) : sProp 𝕄 := bigSep (Finset.range (2 * k - 2)) fun ch => oPts d (blk L ch) R

omit [FloatOps F] in
theorem todo_take {k : ℕ} (h : k < 8) (f : S7x4096x256.Idx → F .f32) :
    todo d L k f = iprop(oPts d (blk L (2 * k)) f ∗ oPts d (blk L (2 * k + 1)) f ∗ todo d L (k + 1) f) := by
  unfold todo
  have e : Finset.Ico (2 * k) 16 = insert (2 * k) (insert (2 * k + 1) (Finset.Ico (2 * (k + 1)) 16)) := by
    ext x; simp only [Finset.mem_Ico, Finset.mem_insert]; omega
  rw [e, bigSep_insert (by simp only [Finset.mem_insert, Finset.mem_Ico]; omega), bigSep_insert (by simp only [Finset.mem_Ico]; omega)]
  rfl

omit [FloatOps F] in
theorem todo_none (f : S7x4096x256.Idx → F .f32) : todo d L 8 f = iprop(emp) := bigSep_empty

omit [FloatOps F] in
theorem done_none (R : S7x4096x256.Idx → F .f32) : done d L 0 R = iprop(emp) := bigSep_empty

omit [FloatOps F] in
theorem range_two (n : ℕ) : Finset.range (n + 2) = insert n (insert (n + 1) (Finset.range n)) := by
  ext x; simp only [Finset.mem_range, Finset.mem_insert]; omega

omit [FloatOps F] in
theorem done_put (k : ℕ) (R : S7x4096x256.Idx → F .f32) :
    iprop(sent d k (blk L (2 * k - 2)) R ∗ sent d k (blk L (2 * k - 1)) R ∗ done d L k R) ⊢ done d L (k + 1) R := by
  unfold sent
  rcases Nat.eq_zero_or_pos k with h | h
  · subst h
    rw [if_pos rfl]
    iintro ⟨_, _, H⟩
    iexact H
  · have e1 : 2 * k - 1 = (2 * k - 2) + 1 := by omega
    have e2 : 2 * (k + 1) - 2 = (2 * k - 2) + 2 := by omega
    rw [if_neg (by omega), if_neg (by omega)]
    unfold done
    rw [e2, range_two, bigSep_insert (by simp), bigSep_insert (by simp), e1]
    exact BIBase.Entails.rfl

/-- Before trip `k`: the trip's first block is under way into slot 0, slot 1 is free, the output's slots are on their way out
    but for the first trip, and the blocks before those have arrived. -/
def trips (k : ℕ) (q0 q1 : PosShare TreeShare) (X1 X2 : S9x4096x256.Idx → F .f32) (mu : S80.Idx → F .f32) (f : S7x4096x256.Idx → F .f32)
    (O : CellTallies nD τ sig (HIx 1)) (W : Waits sig (HIx 1)) : sProp 𝕄 :=
  iprop(coming d L k q0 X1 X2 ∗ idle d L 1 cc0_scratch5.sem cc0_scratch7.sem q1 X1 X2
    ∗ leaving d L k 0 (blk L (2 * k - 2)) cc0_scratch8.sem (result X1 X2 mu) ∗ leaving d L k 1 (blk L (2 * k - 1)) cc0_scratch9.sem (result X1 X2 mu)
    ∗ todo d L k f ∗ done d L k (result X1 X2 mu) ∗ due d L O W)

set_option maxHeartbeats 1000000 in
/-- One trip computes and sends off two blocks. -/
theorem run_t1 (C : Fin 25 → FVec F S16 .f32) (mu : S80.Idx → F .f32) (hC : ∀ q l, C q (ix1 l) = coef mu q) (v2 : BitVec 32) (t : Fin k0_t1_loop.trips) (acc : BitVec 32)
    (q0 q1 : PosShare TreeShare) (X1 X2 : S9x4096x256.Idx → F .f32) (f : S7x4096x256.Idx → F .f32) (O : CellTallies nD τ sig (HIx 1)) (W : Waits sig (HIx 1)) :
    trips d L t.val q0 q1 X1 X2 mu f O W ⊢ run d L (k0_t1_body L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2 (C 0) (C 1) (C 2) (C 3) (C 4) (C 5) (C 6) (C 7) (C 8) (C 9) (C 10) (C 11) (C 12) (C 13) (C 14) (C 15) (C 16) (C 17) (C 18) (C 19) (C 20) (C 21) (C 22) (C 23) (C 24) t acc) fun _ => trips d L (t.val + 1) q0 q1 X1 X2 mu f O W := by
  have ht := trip_lt t
  have hn : blk L (2 * t.val + 1) < 512 := blk_lt L (by omega)
  have e1 : leaving d L (t.val + 1) 0 (blk L (2 * (t.val + 1) - 2)) cc0_scratch8.sem (result X1 X2 mu) = flyO d L cc0_scratch8.sem 0 (blk L (2 * t.val)) (result X1 X2 mu) := by
    unfold leaving; rw [if_neg (by omega), show 2 * (t.val + 1) - 2 = 2 * t.val by omega]
  have e2 : leaving d L (t.val + 1) 1 (blk L (2 * (t.val + 1) - 1)) cc0_scratch9.sem (result X1 X2 mu) = flyO d L cc0_scratch9.sem 1 (blk L (2 * t.val + 1)) (result X1 X2 mu) := by
    unfold leaving; rw [if_neg (by omega), show 2 * (t.val + 1) - 1 = 2 * t.val + 1 by omega]
  unfold k0_t1_body
  unfold trips
  rw [todo_take d L ht, e1, e2]
  have ec : coming d L t.val q0 X1 X2 = fetching d L 0 (blk L (2 * t.val)) cc0_scratch4.sem cc0_scratch6.sem q0 X1 X2 := by
    unfold coming; rw [if_pos ht]
  rw [ec]
  iintro ⟨Hc, Hi1, Hl0, Hl1, ⟨Ho0, Ho1, Ht⟩, Hd, Hdue⟩
  iapply (run_then d L (run_part15 d L v2 0#32 1#32 t q1 X1 X2)) $$ Hi1
  iintro %arg16 Hf1
  iapply (run_then d L (run_part16 d L C mu hC v2 t arg16 q0 X1 X2 f O W)) $$ [Hc Hl0 Ho0 Hdue]
  · isplitl [Hc]; · iexact Hc
    isplitl [Hl0]; · iexact Hl0
    isplitl [Ho0] <;> iassumption
  iintro %r ⟨Hi0, Hfo0, Hsent0, Hdue⟩
  obtain ⟨v293, c0⟩ := r
  iapply (run_then d L (run_part17 d L C mu hC v2 t arg16 v293 c0 q0 q1 X1 X2 O W)) $$ [Hi0 Hf1 Hl1 Hdue]
  · isplitl [Hi0]; · iexact Hi0
    isplitl [Hf1]; · iexact Hf1
    isplitl [Hl1] <;> iassumption
  iintro %_ ⟨Hc, Hi1, Hs, Hv, Hsent1, Hdue⟩
  iapply (run_emit d L hn (off40_blk L t)) $$ [Hs Ho1 Hv]
  · isplitl [Hs]; · iexact Hs
    isplitl [Ho1] <;> iassumption
  iintro Hfo1
  iapply (le_wp_ret frame _ _ _ _)
  isplitl [Hc]; · iexact Hc
  isplitl [Hi1]; · iexact Hi1
  isplitl [Hfo0]; · iexact Hfo0
  isplitl [Hfo1]; · iexact Hfo1
  isplitl [Ht]; · iexact Ht
  isplitl [Hsent0 Hsent1 Hd]
  · iapply (done_put d L t.val (result X1 X2 mu))
    isplitl [Hsent0]; · iexact Hsent0
    isplitl [Hsent1] <;> iassumption
  iexact Hdue

/-- What the tile holds of its slots, shares and output blocks: before the loop with any output `f`, after it with the result. -/
def tileHas (q0 q1 : PosShare TreeShare) (X1 X2 : S9x4096x256.Idx → F .f32) (f : S7x4096x256.Idx → F .f32) : sProp 𝕄 :=
  iprop(idle d L 0 cc0_scratch4.sem cc0_scratch6.sem q0 X1 X2 ∗ idle d L 1 cc0_scratch5.sem cc0_scratch7.sem q1 X1 X2
    ∗ idleO d L 0 cc0_scratch8.sem ∗ idleO d L 1 cc0_scratch9.sem ∗ bigSep (Finset.range 16) fun ch => oPts d (blk L ch) f)

/-- After the last trip, all but the last block's copy. -/
def tileEnds (q0 q1 : PosShare TreeShare) (X1 X2 : S9x4096x256.Idx → F .f32) (R : S7x4096x256.Idx → F .f32) : sProp 𝕄 :=
  iprop(idle d L 0 cc0_scratch4.sem cc0_scratch6.sem q0 X1 X2 ∗ idle d L 1 cc0_scratch5.sem cc0_scratch7.sem q1 X1 X2
    ∗ idleO d L 0 cc0_scratch8.sem ∗ flyO d L cc0_scratch9.sem 1 (blk L 15) R ∗ oPts d (blk L 14) R ∗ bigSep (Finset.range 14) fun ch => oPts d (blk L ch) R)

theorem leaving_none (b n : ℕ) (s : DmaSem sig) (R : S7x4096x256.Idx → F .f32) : leaving d L 0 b n s R = idleO d L b s := if_pos rfl
theorem leaving_some {k : ℕ} (h : k ≠ 0) (b n : ℕ) (s : DmaSem sig) (R : S7x4096x256.Idx → F .f32) : leaving d L k b n s R = flyO d L s b n R := if_neg h

theorem trips_first (q0 q1 : PosShare TreeShare) (X1 X2 : S9x4096x256.Idx → F .f32) (mu : S80.Idx → F .f32) (f : S7x4096x256.Idx → F .f32)
    (O : CellTallies nD τ sig (HIx 1)) (W : Waits sig (HIx 1)) :
    iprop(fetching d L 0 (blk L 0) cc0_scratch4.sem cc0_scratch6.sem q0 X1 X2 ∗ idle d L 1 cc0_scratch5.sem cc0_scratch7.sem q1 X1 X2
      ∗ idleO d L 0 cc0_scratch8.sem ∗ idleO d L 1 cc0_scratch9.sem ∗ (bigSep (Finset.range 16) fun ch => oPts d (blk L ch) f) ∗ due d L O W)
      ⊢ trips d L 0 q0 q1 X1 X2 mu f O W := by
  have ec : coming d L 0 q0 X1 X2 = fetching d L 0 (blk L 0) cc0_scratch4.sem cc0_scratch6.sem q0 X1 X2 := if_pos (by omega)
  have et : todo d L 0 f = bigSep (Finset.range 16) fun ch => oPts d (blk L ch) f := by
    unfold todo; rw [Nat.mul_zero, ← Finset.range_eq_Ico]
  unfold trips
  rw [leaving_none, leaving_none, done_none, ec, et]
  iintro ⟨Hc, Hi1, Hl0, Hl1, Ho, Hdue⟩
  isplitl [Hc]; · iexact Hc
  isplitl [Hi1]; · iexact Hi1
  isplitl [Hl0]; · iexact Hl0
  isplitl [Hl1]; · iexact Hl1
  isplitl [Ho]; · iexact Ho
  isplitr; · iempintro
  iexact Hdue

theorem trips_last (q0 q1 : PosShare TreeShare) (X1 X2 : S9x4096x256.Idx → F .f32) (mu : S80.Idx → F .f32) (f : S7x4096x256.Idx → F .f32)
    (O : CellTallies nD τ sig (HIx 1)) (W : Waits sig (HIx 1)) :
    trips d L 8 q0 q1 X1 X2 mu f O W
      ⊢ iprop(idle d L 0 cc0_scratch4.sem cc0_scratch6.sem q0 X1 X2 ∗ idle d L 1 cc0_scratch5.sem cc0_scratch7.sem q1 X1 X2
        ∗ flyO d L cc0_scratch8.sem 0 (blk L 14) (result X1 X2 mu) ∗ flyO d L cc0_scratch9.sem 1 (blk L 15) (result X1 X2 mu)
        ∗ (bigSep (Finset.range 14) fun ch => oPts d (blk L ch) (result X1 X2 mu)) ∗ due d L O W) := by
  have ec : coming d L 8 q0 X1 X2 = idle d L 0 cc0_scratch4.sem cc0_scratch6.sem q0 X1 X2 := if_neg (by omega)
  have ed : done d L 8 (result X1 X2 mu) = bigSep (Finset.range 14) fun ch => oPts d (blk L ch) (result X1 X2 mu) := by
    unfold done; rw [show 2 * 8 - 2 = 14 from rfl]
  unfold trips
  rw [leaving_some d L (by decide), leaving_some d L (by decide), ec, ed, todo_none, show 2 * 8 - 2 = 14 from rfl, show 2 * 8 - 1 = 15 from rfl]
  iintro ⟨Hc, Hi1, Hl0, Hl1, _, Ho, Hdue⟩
  isplitl [Hc]; · iexact Hc
  isplitl [Hi1]; · iexact Hi1
  isplitl [Hl0]; · iexact Hl0
  isplitl [Hl1]; · iexact Hl1
  isplitl [Ho] <;> iassumption

set_option maxHeartbeats 1000000 in
/-- The first block's copies, the loop, and the wait for the copy of the last block of slot 0. -/
theorem run_part22 (C : Fin 25 → FVec F S16 .f32) (mu : S80.Idx → F .f32) (hC : ∀ q l, C q (ix1 l) = coef mu q) (v2 : BitVec 32)
    (q0 q1 : PosShare TreeShare) (X1 X2 : S9x4096x256.Idx → F .f32) (f : S7x4096x256.Idx → F .f32) (O : CellTallies nD τ sig (HIx 1)) (W : Waits sig (HIx 1)) :
    iprop(tileHas d L q0 q1 X1 X2 f ∗ due d L O W)
      ⊢ run d L (k0_part22 L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2 (C 0) (C 1) (C 2) (C 3) (C 4) (C 5) (C 6) (C 7) (C 8) (C 9) (C 10) (C 11) (C 12) (C 13) (C 14) (C 15) (C 16) (C 17) (C 18) (C 19) (C 20) (C 21) (C 22) (C 23) (C 24)) fun _ => iprop(tileEnds d L q0 q1 X1 X2 (result X1 X2 mu) ∗ due d L O W) := by
  have hn : blk L 0 < 512 := blk_lt L (by omega)
  have hbody : ∀ (t : Fin k0_t1_loop.trips) (acc : BitVec 32), trips d L t.val q0 q1 X1 X2 mu f O W
      ⊢ run d L (k0_t1_body L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2 (C 0) (C 1) (C 2) (C 3) (C 4) (C 5) (C 6) (C 7) (C 8) (C 9) (C 10) (C 11) (C 12) (C 13) (C 14) (C 15) (C 16) (C 17) (C 18) (C 19) (C 20) (C 21) (C 22) (C 23) (C 24) t acc) fun _ => trips d L (t.val + 1) q0 q1 X1 X2 mu f O W :=
    fun t acc => run_t1 d L C mu hC v2 t acc q0 q1 X1 X2 f O W
  have hloop : trips d L 0 q0 q1 X1 X2 mu f O W ⊢ run d L (Scf.Loop.for k0_t1_loop k0_t1_ok 0#32 (k0_t1_body L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0 v2 (C 0) (C 1) (C 2) (C 3) (C 4) (C 5) (C 6) (C 7) (C 8) (C 9) (C 10) (C 11) (C 12) (C 13) (C 14) (C 15) (C 16) (C 17) (C 18) (C 19) (C 20) (C 21) (C 22) (C 23) (C 24))) fun _ => trips d L 8 q0 q1 X1 X2 mu f O W := by
    iintro H
    iapply (Scf.wp_for frame (wpE (defs₀ (F := F)) 𝒱₀ (thr d L) none) Set.univ _ _ _ k0_t1_ok _ _ (fun k _ => trips d L k q0 q1 X1 X2 mu f O W) hbody)
    isplitl
    · iexact H
    · iintro %_ H
      iexact H
  rw [k0_part22_eq_skeleton]
  unfold k0_part22_skel tileHas
  have e0 : idle d L 0 cc0_scratch4.sem cc0_scratch6.sem q0 X1 X2 = iprop((∃ f, s1Pts d L 0 f) ∗ x1Pts d q0 X1 ∗ semVal (thr d L, SemLoc.dma cc0_scratch4.sem) 0 ∗ (∃ f, s2Pts d L 0 f) ∗ x2Pts d q0 X2 ∗ semVal (thr d L, SemLoc.dma cc0_scratch6.sem) 0) := rfl
  rw [e0]
  iintro ⟨⟨Hi0, Hi1, Hl0, Hl1, Ho⟩, Hdue⟩
  icases Hi0 with ⟨⟨%f1, H1⟩, Hx1, Hv1, ⟨%f2, H2⟩, Hx2, Hv2⟩
  iapply (run_fetch1 d L hn (off1_blk L)) $$ [H1 Hx1 Hv1]
  · isplitl [Hx1]; · iexact Hx1
    isplitl [H1] <;> iassumption
  iintro Hf1
  iapply (run_fetch2 d L hn (off1_blk L)) $$ [H2 Hx2 Hv2]
  · isplitl [Hx2]; · iexact Hx2
    isplitl [H2] <;> iassumption
  iintro Hf2
  iapply (run_then d L hloop) $$ [Hf1 Hf2 Hi1 Hl0 Hl1 Ho Hdue]
  · iapply (trips_first d L q0 q1 X1 X2 mu f O W)
    isplitl [Hf1 Hf2]
    · unfold fetching
      isplitl [Hf1] <;> iassumption
    isplitl [Hi1]; · iexact Hi1
    isplitl [Hl0]; · iexact Hl0
    isplitl [Hl1]; · iexact Hl1
    isplitl [Ho] <;> iassumption
  iintro %_ H
  ihave H' := (trips_last d L q0 q1 X1 X2 mu f O W) $$ H
  icases H' with ⟨Hi0, Hi1, Hl0, Hl1, Hd, Hdue⟩
  iapply (run_sent d L) $$ [Hl0 Hdue]
  · isplitl [Hl0] <;> iassumption
  iintro ⟨⟨Hb, Hs⟩, Hv, Hdue⟩
  iapply (le_wp_ret frame _ _ _ _)
  unfold tileEnds
  isplitr [Hdue]
  · isplitl [Hi0]; · iexact Hi0
    isplitl [Hi1]; · iexact Hi1
    isplitl [Hs Hv]
    · unfold idleO
      isplitl [Hs]
      · iexists _; iexact Hs
      iexact Hv
    isplitl [Hl1]; · iexact Hl1
    isplitl [Hb]; · iexact Hb
    iexact Hd
  iexact Hdue

end Cert.Proof.Sc
-- ==== Proof.Tile.lean ====
/-
  A tile's whole run: the multipliers copied into its scratch and the twenty-five coefficients read off them, the loop over its
  chunks, the wait for the last copy.
-/
module

public import proofs.«01_k».proof.Proof.ChunkLoop

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## The multipliers' lanes -/

/-- Sixteen multipliers from `o` on. -/
def lanes (mu : S80.Idx → F .f32) (o : ℕ) (h : o + 16 ≤ 80) : Vec F S16 .f32 :=
  fun i => mu (ix1 (⟨o + (i 0).val, by have : (i 0).val < 16 := (i 0).isLt; omega⟩ : Fin 80))

abbrev smPts (f : S80.Idx → F .f32) : sProp 𝕄 := smLoc d L ↦{fullShare} f
/-- A share of the multipliers. -/
abbrev muPts (q : PosShare TreeShare) (f : S80.Idx → F .f32) : sProp 𝕄 := muLoc d ↦{q} f

/-- A load of sixteen multipliers from the scratch. -/
theorem run_loadM {α : Type} (o : ℕ) (h : o + 16 ≤ 80) (hb : ∀ a, (![o] : Fin 1 → ℕ) a + S16.size a ≤ S80.size a) {hl} (mu : S80.Idx → F .f32)
    (k : Vec F S16 .f32 → TProg F L α) (Q : α → sProp 𝕄) :
    smPts d L mu ⊢ iprop((smPts d L mu -∗ run d L (k (lanes mu o h)) Q)
      -∗ run d L (.op (.load muS (Rect.unit (s := S80) ![o] S16.size hb).toLoadRect hl) k) Q) := by
  have hs : (muS.access (Rect.unit (s := S80) ![o] S16.size hb)).set ⊆ (Finset.univ : Finset (Idx (smLoc d L))) := Finset.subset_univ _
  have hv : muS.view.readAt (Elt F) (Rect.unit (s := S80) ![o] S16.size hb).toLoadRect mu = lanes mu o h := by
    funext i
    unfold lanes
    refine congrArg mu ?_
    funext a
    apply Fin.ext
    fin_cases a
    show o + 1 * (i 0).val = o + (i 0).val
    omega
  rw [← hv]
  iintro Ho Hk
  iapply (wp_load_rect 𝒱₀ (thr d L) none Set.univ (m := muS) hs) $$ Ho
  iintro Ho
  iapply Hk
  iexact Ho

/-- The twenty-five coefficients as the tile builds them, each in all sixteen lanes. -/
def coefs (mu : S80.Idx → F .f32) : Fin 25 → FVec F S16 .f32 :=
  ![k0_pay109 (k0_pay84 (lanes mu 0 (by omega))),
    k0_pay110 (k0_pay85 (lanes mu 0 (by omega))),
    k0_pay111 (k0_pay86 (lanes mu 0 (by omega))),
    k0_pay112 (k0_pay87 (lanes mu 0 (by omega))),
    k0_pay113 (k0_pay88 (lanes mu 0 (by omega))),
    k0_pay114 (k0_pay89 (lanes mu 0 (by omega))),
    k0_pay115 (k0_pay90 (lanes mu 0 (by omega))),
    k0_pay116 (k0_pay91 (lanes mu 0 (by omega))),
    k0_pay117 (k0_pay92 (lanes mu 0 (by omega))),
    k0_pay118 (k0_pay93 (lanes mu 0 (by omega))),
    k0_pay119 (k0_pay94 (lanes mu 16 (by omega))),
    k0_pay120 (k0_pay95 (k0_pay80 (lanes mu 16 (by omega)))),
    k0_pay121 (k0_pay96 (k0_pay80 (lanes mu 16 (by omega)))),
    k0_pay122 (k0_pay97 (k0_pay80 (lanes mu 16 (by omega)))),
    k0_pay123 (k0_pay98 (k0_pay80 (lanes mu 16 (by omega)))),
    k0_pay124 (k0_pay99 (k0_pay80 (lanes mu 16 (by omega)))),
    k0_pay125 (k0_pay100 (k0_pay80 (lanes mu 16 (by omega)))),
    k0_pay126 (k0_pay101 (k0_pay80 (lanes mu 16 (by omega)))),
    k0_pay127 (k0_pay102 (k0_pay80 (lanes mu 16 (by omega)))),
    k0_pay128 (k0_pay103 (k0_pay81 (lanes mu 32 (by omega)))),
    k0_pay129 (k0_pay104 (k0_pay81 (lanes mu 32 (by omega)))),
    k0_pay130 (k0_pay105 (k0_pay81 (lanes mu 32 (by omega)))),
    k0_pay131 (k0_pay106 (k0_pay81 (lanes mu 32 (by omega)))),
    k0_pay132 (k0_pay107 (k0_pay81 (lanes mu 32 (by omega)))),
    k0_pay133 (k0_pay108 (k0_pay81 (lanes mu 32 (by omega))))]

theorem pick (v : S16.Idx → F .f32) (o : ℕ) (ho : o < 16) (h : S16.Slices ![o] S1) :
    extractAt ![0] (extractStridedSlice S1 ![o] v h) inpos_S1_p0 = v (ix1 (⟨o, ho⟩ : Fin 16)) := by
  refine congrArg v (funext fun a => Fin.ext ?_)
  fin_cases a
  rfl

theorem cast16 (v : S16.Idx → F .f32) : shapeCast S16 v shapeCasts_S16_S16 = v :=
  funext fun i => congrArg v (Shape.reshapeEquiv_self _ i)

/-- They are the multipliers' absolute values. -/
theorem coefs_val (mu : S80.Idx → F .f32) (q : Fin 25) (l : Fin 16) : coefs mu q (ix1 l) = coef mu q := by
  have e : ∀ (v : S16.Idx → F .f32) (o : ℕ) (ho : o < 16) (h : S16.Slices ![o] S1),
      extractAt ![0] (extractStridedSlice S1 ![o] (shapeCast S16 v shapeCasts_S16_S16) h) inpos_S1_p0 = v (ix1 (⟨o, ho⟩ : Fin 16)) :=
    fun v o ho h => by rw [cast16]; exact pick v o ho h
  unfold coef
  fin_cases q
  · exact congrArg FloatOps.absf (e (lanes mu 0 (by omega)) 0 (by omega) slices_S16_o0_S1)
  · exact congrArg FloatOps.absf (e (lanes mu 0 (by omega)) 2 (by omega) slices_S16_o2_S1)
  · exact congrArg FloatOps.absf (e (lanes mu 0 (by omega)) 3 (by omega) slices_S16_o3_S1)
  · exact congrArg FloatOps.absf (e (lanes mu 0 (by omega)) 5 (by omega) slices_S16_o5_S1)
  · exact congrArg FloatOps.absf (e (lanes mu 0 (by omega)) 7 (by omega) slices_S16_o7_S1)
  · exact congrArg FloatOps.absf (e (lanes mu 0 (by omega)) 8 (by omega) slices_S16_o8_S1)
  · exact congrArg FloatOps.absf (e (lanes mu 0 (by omega)) 10 (by omega) slices_S16_o10_S1)
  · exact congrArg FloatOps.absf (e (lanes mu 0 (by omega)) 12 (by omega) slices_S16_o12_S1)
  · exact congrArg FloatOps.absf (e (lanes mu 0 (by omega)) 14 (by omega) slices_S16_o14_S1)
  · exact congrArg FloatOps.absf (e (lanes mu 0 (by omega)) 15 (by omega) slices_S16_o15_S1)
  · exact congrArg FloatOps.absf (e (lanes mu 16 (by omega)) 1 (by omega) slices_S16_o1_S1)
  · exact congrArg FloatOps.absf (e (lanes mu 16 (by omega)) 2 (by omega) slices_S16_o2_S1)
  · exact congrArg FloatOps.absf (e (lanes mu 16 (by omega)) 4 (by omega) slices_S16_o4_S1)
  · exact congrArg FloatOps.absf (e (lanes mu 16 (by omega)) 6 (by omega) slices_S16_o6_S1)
  · exact congrArg FloatOps.absf (e (lanes mu 16 (by omega)) 8 (by omega) slices_S16_o8_S1)
  · exact congrArg FloatOps.absf (e (lanes mu 16 (by omega)) 10 (by omega) slices_S16_o10_S1)
  · exact congrArg FloatOps.absf (e (lanes mu 16 (by omega)) 12 (by omega) slices_S16_o12_S1)
  · exact congrArg FloatOps.absf (e (lanes mu 16 (by omega)) 13 (by omega) slices_S16_o13_S1)
  · exact congrArg FloatOps.absf (e (lanes mu 16 (by omega)) 14 (by omega) slices_S16_o14_S1)
  · exact congrArg FloatOps.absf (e (lanes mu 32 (by omega)) 0 (by omega) slices_S16_o0_S1)
  · exact congrArg FloatOps.absf (e (lanes mu 32 (by omega)) 2 (by omega) slices_S16_o2_S1)
  · exact congrArg FloatOps.absf (e (lanes mu 32 (by omega)) 4 (by omega) slices_S16_o4_S1)
  · exact congrArg FloatOps.absf (e (lanes mu 32 (by omega)) 6 (by omega) slices_S16_o6_S1)
  · exact congrArg FloatOps.absf (e (lanes mu 32 (by omega)) 8 (by omega) slices_S16_o8_S1)
  · exact congrArg FloatOps.absf (e (lanes mu 32 (by omega)) 10 (by omega) slices_S16_o10_S1)

/-! ## The scratch -/

abbrev s1All (f : S2x9x8x256.Idx → F .f32) : sProp 𝕄 := s1Loc d L ↦{fullShare} f
abbrev s2All (f : S2x9x8x256.Idx → F .f32) : sProp 𝕄 := s2Loc d L ↦{fullShare} f
abbrev soAll (f : S2x7x8x256.Idx → F .f32) : sProp 𝕄 := soLoc d L ↦{fullShare} f

omit [FloatOps F] in
theorem s1_split (f) : s1All d L f ⊢ iprop(s1Pts d L 0 f ∗ s1Pts d L 1 f : sProp 𝕄) := by
  unfold s1All; rw [← slotX_union]; exact (pointsTo_union slotX_disjoint).1
omit [FloatOps F] in
theorem s2_split (f) : s2All d L f ⊢ iprop(s2Pts d L 0 f ∗ s2Pts d L 1 f : sProp 𝕄) := by
  unfold s2All; rw [← slotX_union]; exact (pointsTo_union slotX_disjoint).1
omit [FloatOps F] in
theorem so_split (f) : soAll d L f ⊢ iprop(soPts d L 0 f ∗ soPts d L 1 f : sProp 𝕄) := by
  unfold soAll; rw [← slotO_union]; exact (pointsTo_union slotO_disjoint).1
omit [FloatOps F] in
theorem s1_join : iprop((∃ f, s1Pts d L 0 f) ∗ ∃ f, s1Pts d L 1 f) ⊢ iprop(∃ f, s1All d L f : sProp 𝕄) := by
  unfold s1All; rw [← slotX_union]
  iintro ⟨⟨%f, H⟩, %g, H'⟩
  iexists _
  iapply (pointsTo_join slotX_disjoint)
  isplitl [H] <;> iassumption
omit [FloatOps F] in
theorem s2_join : iprop((∃ f, s2Pts d L 0 f) ∗ ∃ f, s2Pts d L 1 f) ⊢ iprop(∃ f, s2All d L f : sProp 𝕄) := by
  unfold s2All; rw [← slotX_union]
  iintro ⟨⟨%f, H⟩, %g, H'⟩
  iexists _
  iapply (pointsTo_join slotX_disjoint)
  isplitl [H] <;> iassumption
omit [FloatOps F] in
theorem so_join : iprop((∃ f, soPts d L 0 f) ∗ ∃ f, soPts d L 1 f) ⊢ iprop(∃ f, soAll d L f : sProp 𝕄) := by
  unfold soAll; rw [← slotO_union]
  iintro ⟨⟨%f, H⟩, %g, H'⟩
  iexists _
  iapply (pointsTo_join slotO_disjoint)
  isplitl [H] <;> iassumption

/-! ## The body -/

/-- What a tile is handed and hands back: its shares of the operands and of the multipliers, its blocks of the output. -/
def tilePay (q : PosShare TreeShare) (X1 X2 : S9x4096x256.Idx → F .f32) (mu : S80.Idx → F .f32) (f : S7x4096x256.Idx → F .f32) : sProp 𝕄 :=
  iprop(x1Pts d q X1 ∗ x2Pts d q X2 ∗ muPts d q mu ∗ bigSep (Finset.range 16) fun ch => oPts d (blk L ch) f)

/-- A semaphore of the tile at zero. -/
abbrev zero (s : DmaSem sig) : sProp 𝕄 := semVal (thr d L, SemLoc.dma s) 0

/-- The tile's scratch at any contents, its semaphores at zero. -/
def scratch : sProp 𝕄 :=
  iprop((∃ f, s1All d L f) ∗ (∃ f, s2All d L f) ∗ (∃ f, soAll d L f) ∗ ∃ f, smPts d L f)
def sems : sProp 𝕄 :=
  iprop(zero d L cc0_scratch4.sem ∗ zero d L cc0_scratch5.sem ∗ zero d L cc0_scratch6.sem ∗ zero d L cc0_scratch7.sem
    ∗ zero d L cc0_scratch8.sem ∗ zero d L cc0_scratch9.sem ∗ zero d L cc0_scoped0.sem)

/-- The units the multipliers' copy signals. -/
def nM : ℕ := muS.view.dmaCredit

/-- The multipliers arrive in the scratch and their lanes are read. -/
theorem run_part18 (q : PosShare TreeShare) (mu f : S80.Idx → F .f32) (O : CellTallies nD τ sig (HIx 1)) (W : Waits sig (HIx 1)) :
    iprop(muPts d q mu ∗ smPts d L f ∗ zero d L cc0_scoped0.sem ∗ due d L O W)
      ⊢ run d L (k0_part18 L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0) fun r => iprop(⌜∃ v2, r = ⟨v2, k0_pay80 (lanes mu 16 (by omega)), k0_pay81 (lanes mu 32 (by omega)), k0_pay82 (lanes mu 48 (by omega)), k0_pay83 (lanes mu 64 (by omega)),
          k0_pay84 (lanes mu 0 (by omega)), k0_pay85 (lanes mu 0 (by omega)), k0_pay86 (lanes mu 0 (by omega)), k0_pay87 (lanes mu 0 (by omega)), k0_pay88 (lanes mu 0 (by omega)), k0_pay89 (lanes mu 0 (by omega)),
          k0_pay90 (lanes mu 0 (by omega)), k0_pay91 (lanes mu 0 (by omega)), k0_pay92 (lanes mu 0 (by omega)), k0_pay93 (lanes mu 0 (by omega)), k0_pay94 (lanes mu 16 (by omega))⟩⌝
        ∗ muPts d q mu ∗ smPts d L mu ∗ zero d L cc0_scoped0.sem ∗ due d L O W) := by
  have hset : muS.view.set = Finset.univ := View.set_whole _
  have hback : iprop((muS.view.loc (thr d L) ↦[muS.view.set]{fullShare} (muS.view.write (Elt F) f (muA.view.read (Elt F) mu) Finset.univ)) ∗ (muA.view.loc (thr d L) ↦[Finset.univ]{q} mu))
      ⊢ (iprop(smPts d L mu ∗ muPts d q mu) : sProp 𝕄) := by
    rw [hset, View.write_whole_univ]
    exact BIBase.Entails.rfl
  rw [k0_part18_eq_skeleton]
  unfold k0_part18_skel
  iintro ⟨Hmu, Hsm, Hz, Hdue⟩
  iapply (run_copy d L (src := muA) (dst := muS) (S := Finset.univ) (q := q) (fs := mu) (fd := f) nM rfl (by decide) (Finset.subset_univ _)) $$ [Hmu Hsm Hz]
  · isplitl [Hmu]; · iexact Hmu
    isplitl [Hsm]
    · rw [hset]; iexact Hsm
    iexact Hz
  iintro Hf
  iapply (run_await d L (src := muA) (dst := muS) nM rfl) $$ [Hf Hdue]
  · isplitl [Hf]; · iexact Hf
    iexact Hdue
  iintro ⟨HA, Hz, Hdue⟩
  ihave HA' := hback $$ HA
  icases HA' with ⟨Hsm, Hmu⟩
  iapply (run_loadM d L 0 (by omega) inb_S80_S16_0 mu) $$ Hsm
  iintro Hsm
  iapply (run_loadM d L 16 (by omega) inb_S80_S16_16 mu) $$ Hsm
  iintro Hsm
  iapply (run_loadM d L 32 (by omega) inb_S80_S16_32 mu) $$ Hsm
  iintro Hsm
  iapply (run_loadM d L 48 (by omega) inb_S80_S16_48 mu) $$ Hsm
  iintro Hsm
  iapply (run_loadM d L 64 (by omega) inb_S80_S16_64 mu) $$ Hsm
  iintro Hsm
  iapply (le_wp_ret frame _ _ _ _)
  isplitr
  · ipureintro; exact ⟨_, rfl⟩
  isplitl [Hmu]; · iexact Hmu
  isplitl [Hsm]; · iexact Hsm
  isplitl [Hz] <;> iassumption

omit [FloatOps F] in
theorem blocks_all (R : S7x4096x256.Idx → F .f32) :
    iprop(oPts d (blk L 14) R ∗ oPts d (blk L 15) R ∗ bigSep (Finset.range 14) fun ch => oPts d (blk L ch) R)
      ⊢ (bigSep (Finset.range 16) fun ch => oPts d (blk L ch) R : sProp 𝕄) := by
  rw [show Finset.range 16 = insert 14 (insert 15 (Finset.range 14)) from range_two 14, bigSep_insert (by simp), bigSep_insert (by simp)]
  exact BIBase.Entails.rfl

set_option maxHeartbeats 1000000 in
/-- The whole body: the tile's blocks of the output come out as the contraction, everything else as it came. -/
theorem run_body (q : PosShare TreeShare) (X1 X2 : S9x4096x256.Idx → F .f32) (mu : S80.Idx → F .f32) (f : S7x4096x256.Idx → F .f32)
    (O : CellTallies nD τ sig (HIx 1)) (W : Waits sig (HIx 1)) :
    iprop(tilePay d L q X1 X2 mu f ∗ scratch d L ∗ sems d L ∗ due d L O W)
      ⊢ run d L (cc0__sc_body L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0) fun _ => iprop(tilePay d L q X1 X2 mu (result X1 X2 mu) ∗ scratch d L ∗ sems d L ∗ due d L O W) := by
  rw [cc0__sc_body_eq_skeleton]
  unfold cc0__sc_body_skel tilePay scratch sems
  iintro ⟨⟨Hx1, Hx2, Hmu, Ho⟩, ⟨⟨%f1, H1⟩, ⟨%f2, H2⟩, ⟨%fo, Hs⟩, %fm, Hsm⟩, ⟨Hv4, Hv5, Hv6, Hv7, Hv8, Hv9, Hz⟩, Hdue⟩
  iapply (run_then d L (run_part18 d L q mu fm O W)) $$ [Hmu Hsm Hz Hdue]
  · isplitl [Hmu]; · iexact Hmu
    isplitl [Hsm]; · iexact Hsm
    isplitl [Hz] <;> iassumption
  iintro %r ⟨%hr, Hmu, Hsm, Hz, Hdue⟩
  obtain ⟨v2, rfl⟩ := hr
  rw [k0_part19_eq_skeleton, k0_part20_eq_skeleton, k0_part21_eq_skeleton]
  ihave H1' := (s1_split d L f1) $$ H1
  icases H1' with ⟨H10, H11⟩
  ihave H2' := (s2_split d L f2) $$ H2
  icases H2' with ⟨H20, H21⟩
  ihave Hs' := (so_split d L fo) $$ Hs
  icases Hs' with ⟨Hs0, Hs1⟩
  ihave Hx1' := (pointsTo_share (PosShare.mem_left_op_right q)).1 $$ Hx1
  icases Hx1' with ⟨Hx10, Hx11⟩
  ihave Hx2' := (pointsTo_share (PosShare.mem_left_op_right q)).1 $$ Hx2
  icases Hx2' with ⟨Hx20, Hx21⟩
  iapply (run_then d L (run_part22 d L (coefs mu) mu (coefs_val mu) v2 q.left q.right X1 X2 f O W)) $$ [H10 H11 H20 H21 Hs0 Hs1 Hx10 Hx11 Hx20 Hx21 Hv4 Hv5 Hv6 Hv7 Hv8 Hv9 Ho Hdue]
  · isplitr [Hdue]
    · unfold tileHas idle idleO
      isplitl [H10 Hx10 Hv4 H20 Hx20 Hv6]
      · isplitl [H10]; · iexists _; iexact H10
        isplitl [Hx10]; · iexact Hx10
        isplitl [Hv4]; · iexact Hv4
        isplitl [H20]; · iexists _; iexact H20
        isplitl [Hx20] <;> iassumption
      isplitl [H11 Hx11 Hv5 H21 Hx21 Hv7]
      · isplitl [H11]; · iexists _; iexact H11
        isplitl [Hx11]; · iexact Hx11
        isplitl [Hv5]; · iexact Hv5
        isplitl [H21]; · iexists _; iexact H21
        isplitl [Hx21] <;> iassumption
      isplitl [Hs0 Hv8]
      · isplitl [Hs0]; · iexists _; iexact Hs0
        iexact Hv8
      isplitl [Hs1 Hv9]
      · isplitl [Hs1]; · iexists _; iexact Hs1
        iexact Hv9
      iexact Ho
    iexact Hdue
  iintro %_ ⟨He, Hdue⟩
  unfold tileEnds
  icases He with ⟨Hi0, Hi1, Hio, Hfo, Hb, Hd⟩
  iapply (run_sent d L) $$ [Hfo Hdue]
  · isplitl [Hfo] <;> iassumption
  iintro ⟨⟨Hb', Hs1⟩, Hv9, Hdue⟩
  iapply (le_wp_ret frame _ _ _ _)
  unfold idle idleO
  icases Hi0 with ⟨H10, Hx10, Hv4, H20, Hx20, Hv6⟩
  icases Hi1 with ⟨H11, Hx11, Hv5, H21, Hx21, Hv7⟩
  icases Hio with ⟨Hs0, Hv8⟩
  isplitl [Hx10 Hx11 Hx20 Hx21 Hmu Hb Hb' Hd]
  · isplitl [Hx10 Hx11]
    · iapply (pointsTo_share (PosShare.mem_left_op_right q)).2
      isplitl [Hx10] <;> iassumption
    isplitl [Hx20 Hx21]
    · iapply (pointsTo_share (PosShare.mem_left_op_right q)).2
      isplitl [Hx20] <;> iassumption
    isplitl [Hmu]; · iexact Hmu
    iapply (blocks_all d L (result X1 X2 mu))
    isplitl [Hb]; · iexact Hb
    isplitl [Hb'] <;> iassumption
  isplitl [H10 H11 H20 H21 Hs0 Hs1 Hsm]
  · isplitl [H10 H11]
    · iapply (s1_join d L); isplitl [H10] <;> iassumption
    isplitl [H20 H21]
    · iapply (s2_join d L); isplitl [H20] <;> iassumption
    isplitl [Hs0 Hs1]
    · iapply (so_join d L)
      isplitl [Hs0]; · iexact Hs0
      iexists _; iexact Hs1
    iexists _; iexact Hsm
  isplitr [Hdue]
  · isplitl [Hv4]; · iexact Hv4
    isplitl [Hv5]; · iexact Hv5
    isplitl [Hv6]; · iexact Hv6
    isplitl [Hv7]; · iexact Hv7
    isplitl [Hv8]; · iexact Hv8
    isplitl [Hv9] <;> iassumption
  iexact Hdue

end Cert.Proof.Sc
-- ==== Proof.Launch.lean ====
/-
  The launch: the operands transposed on the TensorCore, the call's thirty-two tiles each with its shares and its blocks of the
  output, the output transposed back.
-/
module

public import proofs.«01_k».proof.Proof.Tile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

abbrev aLoc0 (d : Dev nD) : Loc nD τ sig := (SparseCore.T d).loc main_arg0
abbrev aLoc1 (d : Dev nD) : Loc nD τ sig := (SparseCore.T d).loc main_arg1
abbrev aLoc2 (d : Dev nD) : Loc nD τ sig := (SparseCore.T d).loc main_arg2
abbrev aLoc3 (d : Dev nD) : Loc nD τ sig := (SparseCore.T d).loc main_arg3
abbrev aLoc4 (d : Dev nD) : Loc nD τ sig := (SparseCore.T d).loc main_arg4
abbrev rLoc (d : Dev nD) : Loc nD τ sig := (SparseCore.T d).loc main_v3

/-- The operands with their last axis first, as the tiles read them. -/
def X1T (d : Dev nD) : S9x4096x256.Idx → F .f32 := transpose S9x4096x256 [2, 0, 1] (m (aLoc0 d)) transposes_S4096x256x9_S9x4096x256_2_0_1
def X2T (d : Dev nD) : S9x4096x256.Idx → F .f32 := transpose S9x4096x256 [2, 0, 1] (m (aLoc1 d)) transposes_S4096x256x9_S9x4096x256_2_0_1

variable [FloatOps F]

/-- The call's result, and the program's. -/
def RT (d : Dev nD) : S7x4096x256.Idx → F .f32 := result (X1T m d) (X2T m d) (m (muLoc d))
def Rv (d : Dev nD) : S4096x256x7.Idx → F .f32 := transpose S4096x256x7 [1, 2, 0] (RT m d) transposes_S7x4096x256_S4096x256x7_1_2_0

/-! ## The shares and the blocks -/

theorem nCore_zero : (K (F := F)).nCore 0 = 2 := rfl
theorem nSub_zero : (K (F := F)).nSub 0 = 16 := rfl

def coordsV (c : Fin (grid0.bound 0)) (s : Fin (grid0.bound 1)) : grid0.Coords :=
  fun | 0 => c | 1 => s | ⟨_ + 2, h⟩ => absurd h (Nat.not_lt.2 (Nat.le_add_left _ _))

/-- The coordinates of core `c`'s tile `i`. -/
abbrev at' (c : Fin 2) (i : Fin 16) : grid0.Coords := coordsV c i

/-- Core `c`'s share of an array, and its tile `i`'s of that. -/
abbrev shC (c : Fin 2) : PosShare TreeShare := Transfers.dealOf fullShare Finset.univ c
abbrev shT (c : Fin 2) (i : Fin 16) : PosShare TreeShare := Transfers.dealOf (shC c) Finset.univ i

/-- Core `c`'s shares of the operands and the multipliers, and its tiles' blocks of the output. -/
def corePay (d : Dev nD) (c : Fin 2) (X1 X2 : S9x4096x256.Idx → F .f32) (mu : S80.Idx → F .f32) (f : S7x4096x256.Idx → F .f32) : sProp 𝕄 :=
  iprop(x1Pts d (shC c) X1 ∗ x2Pts d (shC c) X2 ∗ muPts d (shC c) mu
    ∗ bigSep Finset.univ fun i : Fin 16 => bigSep (Finset.range 16) fun ch => oPts d (blk (at' c i) ch) f)

omit [FloatOps F] in
theorem bigSep_sep4 {I : Type} (s : Finset I) (Φ₁ Φ₂ Φ₃ Φ₄ : I → sProp 𝕄) :
    (bigSep s fun i => iprop(Φ₁ i ∗ Φ₂ i ∗ Φ₃ i ∗ Φ₄ i)) = iprop(bigSep s Φ₁ ∗ bigSep s Φ₂ ∗ bigSep s Φ₃ ∗ bigSep s Φ₄) := by
  rw [bigSep_sep' s Φ₁ (fun i => iprop(Φ₂ i ∗ Φ₃ i ∗ Φ₄ i)), bigSep_sep' s Φ₂ (fun i => iprop(Φ₃ i ∗ Φ₄ i)), bigSep_sep' s Φ₃ Φ₄]

omit [FloatOps F] in
/-- A core's shares and blocks are its tiles'. -/
theorem corePay_tiles (d : Dev nD) (c : Fin 2) (X1 X2 : S9x4096x256.Idx → F .f32) (mu : S80.Idx → F .f32) (f : S7x4096x256.Idx → F .f32) :
    (corePay d c X1 X2 mu f : sProp 𝕄) = bigSep Finset.univ fun i : Fin 16 => tilePay d (at' c i) (shT c i) X1 X2 mu f := by
  unfold corePay tilePay x1Pts x2Pts muPts
  rw [bigSep_sep4, Transfers.pointsTo_deal (ℓ := x1Loc d) (Finset.univ : Finset (Fin 16)) Finset.univ_nonempty,
    Transfers.pointsTo_deal (ℓ := x2Loc d) (Finset.univ : Finset (Fin 16)) Finset.univ_nonempty, Transfers.pointsTo_deal (ℓ := muLoc d) (Finset.univ : Finset (Fin 16)) Finset.univ_nonempty]

/-- A tile's sixteen blocks, and its core's. -/
def rowsT (c : Fin 2) (i : Fin 16) : Finset S7x4096x256.Idx := Finset.univ.filter fun x => (x 1).val / 128 = 2 * i.val + c.val
def rowsC (c : Fin 2) : Finset S7x4096x256.Idx := Finset.univ.filter fun x => (x 1).val / 128 % 2 = c.val

theorem rowsT_eq (c : Fin 2) (i : Fin 16) : (Finset.range 16).biUnion (fun ch => blockO (blk (at' c i) ch)) = rowsT c i := by
  ext x
  simp only [Finset.mem_biUnion, mem_blockO, rowsT, Finset.mem_filter, Finset.mem_univ, true_and, Finset.mem_range]
  have e : ∀ ch, blk (at' c i) ch = 32 * i.val + 16 * c.val + ch := fun _ => rfl
  simp only [e]
  constructor
  · rintro ⟨ch, h, h'⟩; omega
  · intro h; exact ⟨(x 1).val / 8 - (32 * i.val + 16 * c.val), by omega, by omega⟩
theorem rowsC_eq (c : Fin 2) : Finset.univ.biUnion (fun i : Fin 16 => rowsT c i) = rowsC c := by
  ext x
  simp only [Finset.mem_biUnion, rowsT, rowsC, Finset.mem_filter, Finset.mem_univ, true_and]
  have h4 : (x 1).val < 4096 := (x 1).isLt
  constructor
  · rintro ⟨i, h⟩; have := c.isLt; omega
  · intro h; exact ⟨⟨(x 1).val / 128 / 2, by omega⟩, by show _ = 2 * ((x 1).val / 128 / 2) + _; omega⟩
theorem rows_eq : Finset.univ.biUnion (fun c : Fin 2 => rowsC c) = Finset.univ := by
  ext x
  simp only [Finset.mem_biUnion, rowsC, Finset.mem_filter, Finset.mem_univ, true_and, iff_true]
  exact ⟨⟨(x 1).val / 128 % 2, by omega⟩, rfl⟩

omit [FloatOps F] in
/-- The output whole is every tile's blocks. -/
theorem out_blocks (d : Dev nD) (f : S7x4096x256.Idx → F .f32) :
    (oLoc d ↦{fullShare} f : sProp 𝕄) = bigSep Finset.univ fun c : Fin 2 => bigSep Finset.univ fun i : Fin 16 => bigSep (Finset.range 16) fun ch => oPts d (blk (at' c i) ch) f := by
  have h1 : ∀ (c : Fin 2) (i : Fin 16), (oLoc d ↦[rowsT c i]{fullShare} f : sProp 𝕄) = bigSep (Finset.range 16) fun ch => oPts d (blk (at' c i) ch) f := fun c i => by
    rw [← rowsT_eq]
    exact pointsTo_biUnion (ℓ := oLoc d) _ _ fun a _ b _ hab => Finset.disjoint_left.mpr fun x hx hx' => hab (by
      have := (mem_blockO.mp hx).symm.trans (mem_blockO.mp hx'); unfold blk at this; omega)
  have h2 : ∀ c : Fin 2, (oLoc d ↦[rowsC c]{fullShare} f : sProp 𝕄) = bigSep Finset.univ fun i : Fin 16 => oLoc d ↦[rowsT c i]{fullShare} f := fun c => by
    rw [← rowsC_eq]
    exact pointsTo_biUnion (ℓ := oLoc d) _ _ fun a _ b _ hab => Finset.disjoint_left.mpr fun x hx hx' => hab (by
      have h := (Finset.mem_filter.mp hx).2; have h' := (Finset.mem_filter.mp hx').2; exact Fin.ext (by omega))
  rw [← rows_eq]
  refine (pointsTo_biUnion (ℓ := oLoc d) _ _ fun a _ b _ hab => Finset.disjoint_left.mpr fun x hx hx' => hab (by
      have h := (Finset.mem_filter.mp hx).2; have h' := (Finset.mem_filter.mp hx').2; exact Fin.ext (by omega))).trans ?_
  exact bigSep_congr fun c _ => (h2 c).trans (bigSep_congr fun i _ => h1 c i)

omit [FloatOps F] in
/-- The operands, the multipliers and the output whole are the two cores' shares and blocks. -/
theorem all_cores (d : Dev nD) (X1 X2 : S9x4096x256.Idx → F .f32) (mu : S80.Idx → F .f32) (f : S7x4096x256.Idx → F .f32) :
    (bigSep Finset.univ fun c : Fin 2 => corePay d c X1 X2 mu f)
      = (iprop(x1Pts d fullShare X1 ∗ x2Pts d fullShare X2 ∗ muPts d fullShare mu ∗ oLoc d ↦{fullShare} f) : sProp 𝕄) := by
  unfold corePay x1Pts x2Pts muPts
  rw [bigSep_sep4, out_blocks, ← Transfers.pointsTo_deal (ℓ := x1Loc d) (Finset.univ : Finset (Fin 2)) Finset.univ_nonempty,
    ← Transfers.pointsTo_deal (ℓ := x2Loc d) (Finset.univ : Finset (Fin 2)) Finset.univ_nonempty, ← Transfers.pointsTo_deal (ℓ := muLoc d) (Finset.univ : Finset (Fin 2)) Finset.univ_nonempty]

/-! ## What the handshakes carry -/

/-- Each core takes its shares and its blocks at the launch's contents, and brings the blocks back at the result's. -/
def P : (K (F := F)).Pay (nD := nD) (Val := Elt F) (Name := ℕ) (U := UU) where
  st := fun q d c => match q with | 0 => corePay d (Fin.cast nCore_zero c) (X1T m d) (X2T m d) (m (muLoc d)) (m (oLoc d))
  dn := fun q d c => match q with | 0 => corePay d (Fin.cast nCore_zero c) (X1T m d) (X2T m d) (m (muLoc d)) (RT m d)
  go := fun q d c i => match q with
    | 0 => tilePay d (at' (Fin.cast nCore_zero c) (Fin.cast nSub_zero i)) (shT (Fin.cast nCore_zero c) (Fin.cast nSub_zero i)) (X1T m d) (X2T m d) (m (muLoc d)) (m (oLoc d))
  td := fun q d c i => match q with
    | 0 => tilePay d (at' (Fin.cast nCore_zero c) (Fin.cast nSub_zero i)) (shT (Fin.cast nCore_zero c) (Fin.cast nSub_zero i)) (X1T m d) (X2T m d) (m (muLoc d)) (RT m d)
  x := fun _ _ => iprop(emp)

omit [FloatOps F] in
instance corePay_storable (d : Dev nD) (c : Fin 2) (X1 X2 : S9x4096x256.Idx → F .f32) (mu : S80.Idx → F .f32) (f : S7x4096x256.Idx → F .f32) :
    BI.Storable (upEmb : UEmb _ 𝕄) (corePay d c X1 X2 mu f) := by
  unfold corePay; infer_instance
omit [FloatOps F] in
instance tilePay_storable (d : Dev nD) (L : grid0.Coords) (q : PosShare TreeShare) (X1 X2 : S9x4096x256.Idx → F .f32) (mu : S80.Idx → F .f32) (f : S7x4096x256.Idx → F .f32) :
    BI.Storable (upEmb : UEmb _ 𝕄) (tilePay d L q X1 X2 mu f) := by
  unfold tilePay; infer_instance

instance P_storable : (P (F := F) m).IsStorable where
  st q d c := match q with | 0 => corePay_storable d _ _ _ _ _
  dn q d c := match q with | 0 => corePay_storable d _ _ _ _ _
  go q d c i := match q with | 0 => tilePay_storable d _ _ _ _ _ _
  td q d c i := match q with | 0 => tilePay_storable d _ _ _ _ _ _

theorem vecSplit : (K (F := F)).VecSplit' (P m) 0 := by
  intro d c
  show corePay d (Fin.cast nCore_zero c) (X1T m d) (X2T m d) (m (muLoc d)) (m (oLoc d)) ⊢ |={Set.univ}=> iprop(
      (bigSep Finset.univ fun i : Fin 16 => tilePay d (at' (Fin.cast nCore_zero c) i) (shT (Fin.cast nCore_zero c) i) (X1T m d) (X2T m d) (m (muLoc d)) (m (oLoc d)))
      ∗ ((bigSep Finset.univ fun i : Fin 16 => tilePay d (at' (Fin.cast nCore_zero c) i) (shT (Fin.cast nCore_zero c) i) (X1T m d) (X2T m d) (m (muLoc d)) (RT m d))
          -∗ corePay d (Fin.cast nCore_zero c) (X1T m d) (X2T m d) (m (muLoc d)) (RT m d)))
  rw [corePay_tiles, corePay_tiles]
  iintro H; imodintro
  isplitl [H]; · iexact H
  iintro H; iexact H

/-! ## The tile's obligation -/

section Tile

variable (d : Dev nD) (L : grid0.Coords)

abbrev cell (s : DmaSem sig) : GSem nD τ sig := (thr d L, .dma s)

omit [FloatOps F] in
/-- The tile's own semaphores: the seven of the kernel and others. -/
theorem ownSems0_V : (ownSems0 (thr d L) : sProp 𝕄) ⊢ iprop(sems d L ∗ (sems d L -∗ ownSems0 (thr d L))) := by
  have take : ∀ (s : Finset (GSem nD τ sig)) (g : GSem nD τ sig), g ∈ s → (bigSep s fun g => semVal g 0 : sProp 𝕄) = iprop(semVal g 0 ∗ bigSep (s.erase g) fun g => semVal g 0) :=
    fun s g h => SparseCore.bigSep_erase' h
  have mem : ∀ s : DmaSem sig, (SemLoc.dma s : SemLoc sig).isScoped .scVector = true → cell d L s ∈ ownCells (thr d L) := fun s h => (mem_ownCells (g := cell d L s)).mpr ⟨rfl, h⟩
  have ne : ∀ s t : DmaSem sig, s ≠ t → cell d L s ≠ cell d L t := fun s t h e => h (by injection e with _ e; injection e)
  unfold SparseCore.Cfg.ownSems0 sems
  rw [take _ (cell d L cc0_scratch4.sem) (mem _ (by decide)),
    take _ (cell d L cc0_scratch5.sem) (by simp only [Finset.mem_erase]; exact ⟨ne _ _ (by decide), mem _ (by decide)⟩),
    take _ (cell d L cc0_scratch6.sem) (by simp only [Finset.mem_erase]; exact ⟨ne _ _ (by decide), ne _ _ (by decide), mem _ (by decide)⟩),
    take _ (cell d L cc0_scratch7.sem) (by simp only [Finset.mem_erase]; exact ⟨ne _ _ (by decide), ne _ _ (by decide), ne _ _ (by decide), mem _ (by decide)⟩),
    take _ (cell d L cc0_scratch8.sem) (by simp only [Finset.mem_erase]; exact ⟨ne _ _ (by decide), ne _ _ (by decide), ne _ _ (by decide), ne _ _ (by decide), mem _ (by decide)⟩),
    take _ (cell d L cc0_scratch9.sem) (by simp only [Finset.mem_erase]; exact ⟨ne _ _ (by decide), ne _ _ (by decide), ne _ _ (by decide), ne _ _ (by decide), ne _ _ (by decide), mem _ (by decide)⟩),
    take _ (cell d L cc0_scoped0.sem) (by simp only [Finset.mem_erase]; exact ⟨ne _ _ (by decide), ne _ _ (by decide), ne _ _ (by decide), ne _ _ (by decide), ne _ _ (by decide), ne _ _ (by decide), mem _ (by decide)⟩)]
  iintro ⟨H4, H5, H6, H7, H8, H9, H0, Hr⟩
  isplitl [H4 H5 H6 H7 H8 H9 H0]
  · isplitl [H4]; · iexact H4
    isplitl [H5]; · iexact H5
    isplitl [H6]; · iexact H6
    isplitl [H7]; · iexact H7
    isplitl [H8]; · iexact H8
    isplitl [H9] <;> iassumption
  iintro ⟨H4, H5, H6, H7, H8, H9, H0⟩
  isplitl [H4]; · iexact H4
  isplitl [H5]; · iexact H5
  isplitl [H6]; · iexact H6
  isplitl [H7]; · iexact H7
  isplitl [H8]; · iexact H8
  isplitl [H9]; · iexact H9
  isplitl [H0] <;> iassumption

omit [FloatOps F] in
/-- The tile's own buffers: the four of the kernel and others. -/
theorem ownBufs_V : (ownBufs (thr d L) : sProp 𝕄) ⊢ iprop(scratch d L ∗ (scratch d L -∗ ownBufs (thr d L))) := by
  have take : ∀ (s : Finset (DevRef τ sig)) (b : DevRef τ sig), b ∈ s → (bigSep s fun b => iprop(∃ f, ((d, b) : Loc nD τ sig) ↦{fullShare} f) : sProp 𝕄)
      = iprop((∃ f, ((d, b) : Loc nD τ sig) ↦{fullShare} f) ∗ bigSep (s.erase b) fun b => iprop(∃ f, ((d, b) : Loc nD τ sig) ↦{fullShare} f)) :=
    fun s b h => SparseCore.bigSep_erase' h
  have ne : ∀ r r' : Ref sig .scVector, r ≠ r' → (Proc.scVector (cV L) (jV L)).devRef r ≠ (Proc.scVector (cV L) (jV L)).devRef r' := fun r r' h e => h (Proc.devRef_injective _ e)
  unfold SparseCore.Cfg.ownBufs scratch
  rw [take _ ((Proc.scVector (cV L) (jV L)).devRef cc0_scratch0) (SparseCore.Cfg.mem_ownRefs_of_owner (p := Proc.scVector (cV L) (jV L)) rfl),
    take _ ((Proc.scVector (cV L) (jV L)).devRef cc0_scratch1) (by simp only [Finset.mem_erase]; exact ⟨ne _ _ (by decide), SparseCore.Cfg.mem_ownRefs_of_owner (p := Proc.scVector (cV L) (jV L)) rfl⟩),
    take _ ((Proc.scVector (cV L) (jV L)).devRef cc0_scratch2) (by simp only [Finset.mem_erase]; exact ⟨ne _ _ (by decide), ne _ _ (by decide), SparseCore.Cfg.mem_ownRefs_of_owner (p := Proc.scVector (cV L) (jV L)) rfl⟩),
    take _ ((Proc.scVector (cV L) (jV L)).devRef cc0_scratch3) (by simp only [Finset.mem_erase]; exact ⟨ne _ _ (by decide), ne _ _ (by decide), ne _ _ (by decide), SparseCore.Cfg.mem_ownRefs_of_owner (p := Proc.scVector (cV L) (jV L)) rfl⟩)]
  iintro ⟨H0, H1, H2, H3, Hr⟩
  isplitl [H0 H1 H2 H3]
  · isplitl [H0]; · iexact H0
    isplitl [H1]; · iexact H1
    isplitl [H2] <;> iassumption
  iintro ⟨H0, H1, H2, H3⟩
  isplitl [H0]; · iexact H0
  isplitl [H1]; · iexact H1
  isplitl [H2]; · iexact H2
  isplitl [H3] <;> iassumption

/-- The tile's run from what the launch gives it to what it hands back. -/
theorem tile_body (hF : (K (F := F)).Facts) (q : PosShare TreeShare) (X1 X2 : S9x4096x256.Idx → F .f32) (mu : S80.Idx → F .f32) (f : S7x4096x256.Idx → F .f32)
    (O : CellTallies nD τ sig (HIx 1)) (W : Waits sig (HIx 1)) (hO : ∀ g, O g none = 0) :
    iprop(levAts (K (F := F)).L (K (F := F)).lev ∗ emp ∗ tilePay d L q X1 X2 mu f
        ∗ scopedBufs (thr d L) ∗ scopedSems0 (thr d L) ∗ owes (thr d L) O W)
      ⊢ run d L (cc0__sc_body L x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0)
          fun _ => iprop(tilePay d L q X1 X2 mu (result X1 X2 mu) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L)]
  iintro ⟨#Hlv, -, Hp, Hbufs, Hsems, HO⟩
  ihave Hmw := (show levAts (K (F := F)).L (K (F := F)).lev ⊢ Transfers.MayWaits (thr d L) (default : HIx 1) O from
    (K (F := F)).mayWaits_none (thr := thr d L) hO) $$ Hlv
  ihave Hb := (ownBufs_V d L) $$ Hbufs
  icases Hb with ⟨Hscr, Hbback⟩
  ihave Hs := (ownSems0_V d L) $$ Hsems
  icases Hs with ⟨Hsem, Hsback⟩
  iapply (wp_wand_r frame _ _)
  isplitl [Hp Hscr Hsem Hmw HO]
  · iapply (run_body d L q X1 X2 mu f O W)
    isplitl [Hp]; · iexact Hp
    isplitl [Hscr]; · iexact Hscr
    isplitl [Hsem]; · iexact Hsem
    unfold due
    isplitl [Hmw]; · iexact Hmw
    iexists W
    isplitr
    · ipureintro; exact fun p hp => Or.inl hp
    iexact HO
  iintro %_ ⟨Hp, Hscr, Hsem, Hdue⟩
  unfold due
  icases Hdue with ⟨-, %W', %hW', HO⟩
  isplitl [Hp]; · iexact Hp
  isplitl [Hscr Hbback]
  · iapply Hbback; iexact Hscr
  isplitl [Hsem Hsback]
  · iapply Hsback; iexact Hsem
  iexists W'
  isplitr
  · ipureintro; exact fun p hp => (hW' p hp).imp_right Or.inl
  iexact HO

theorem defs₀_vector (c : Fin τ.nSC) (s : Fin τ.nSub) :
    defs₀ (F := F) (.scVector c s) 0 ()
      = SparseCore.onTile hcore0 hsub0 (fun c s => cc0__sc_body (coordsV c s) x1A (Memref.isWhole_whole _) x2A (Memref.isWhole_whole _) muA (Memref.isWhole_whole _) outA (Memref.isWhole_whole _) x1S (Memref.isWhole_whole _) x2S (Memref.isWhole_whole _) outS (Memref.isWhole_whole _) muS (Memref.isWhole_whole _) cc0_scratch4 cc0_scratch5 cc0_scratch6 cc0_scratch7 cc0_scratch8 cc0_scratch9 cc0_scoped0) ⟨⟩ c s := rfl

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF _ _ _ _ _ O W hO

end Tile

end Cert.Proof.Sc
-- ==== Proof.Run.lean ====
/-
  The program's run: the two transposes, the call, the transpose back; then what the final memory holds.
-/
module

public import proofs.«01_k».proof.Proof.Launch

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The launch's ghost state: the handshakes' rounds. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : ∀ {I : Type} (s : Finset I), (bigSep s fun _ => iprop(emp)) = (iprop(emp) : sProp 𝕄) := fun s => bigSep_emp_const s
  unfold u₀
  iintro Hu
  ihave H := (ownU_pair _ _) $$ Hu
  icases H with ⟨HH, -⟩
  imodintro
  isplitl [HH]; · iexact HH
  isplitr; · rw [e]; iempintro
  unfold P; dsimp only
  rw [show (bigSep Finset.univ fun _ : Thread nD τ => bigSep Finset.univ fun _ : Fin 1 => (iprop(emp) : sProp 𝕄)) = iprop(emp) from by
    rw [bigSep_congr fun _ _ => e _, e]]
  iempintro

/-! ## The TensorCore's arrays -/

abbrev t_arg0 : DevRef τ sig := Proc.devRef .tc (main_arg0 : Ref sig .tc)
abbrev t_arg1 : DevRef τ sig := Proc.devRef .tc (main_arg1 : Ref sig .tc)
abbrev t_v0 : DevRef τ sig := Proc.devRef .tc (main_v0 : Ref sig .tc)
abbrev t_v1 : DevRef τ sig := Proc.devRef .tc (main_v1 : Ref sig .tc)
abbrev t_v2 : DevRef τ sig := Proc.devRef .tc (main_v2 : Ref sig .tc)
abbrev t_v3 : DevRef τ sig := Proc.devRef .tc (main_v3 : Ref sig .tc)

abbrev op1 : HloOp τ sig (Elt F) := StableHlo.unary main_arg0 main_v0 ((transpose S9x4096x256 [2, 0, 1] · transposes_S4096x256x9_S9x4096x256_2_0_1) : (⟨S4096x256x9, .f32⟩ : BufTy).Contents (Elt F) → (⟨S9x4096x256, .f32⟩ : BufTy).Contents (Elt F))
abbrev op2 : HloOp τ sig (Elt F) := StableHlo.unary main_arg1 main_v1 ((transpose S9x4096x256 [2, 0, 1] · transposes_S4096x256x9_S9x4096x256_2_0_1) : (⟨S4096x256x9, .f32⟩ : BufTy).Contents (Elt F) → (⟨S9x4096x256, .f32⟩ : BufTy).Contents (Elt F))
abbrev op3 : HloOp τ sig (Elt F) := StableHlo.unary main_v2 main_v3 ((transpose S4096x256x7 [1, 2, 0] · transposes_S7x4096x256_S4096x256x7_1_2_0) : (⟨S7x4096x256, .f32⟩ : BufTy).Contents (Elt F) → (⟨S4096x256x7, .f32⟩ : BufTy).Contents (Elt F))

omit [FloatOps F] in
theorem unscopedBufs_eq (d : Dev nD) (W : (b : Ref sig .tc) → Buf (Elt F) ((d.tc : Thread nD τ).loc b)) :
    (unscopedBufs d W : sProp 𝕄) = iprop((aLoc0 d ↦{fullShare} W main_arg0) ∗ (aLoc1 d ↦{fullShare} W main_arg1) ∗ (aLoc2 d ↦{fullShare} W main_arg2) ∗ (aLoc3 d ↦{fullShare} W main_arg3) ∗ (aLoc4 d ↦{fullShare} W main_arg4) ∗ (muLoc d ↦{fullShare} W main_arg5) ∗ (x1Loc d ↦{fullShare} W main_v0) ∗ (x2Loc d ↦{fullShare} W main_v1) ∗ (oLoc d ↦{fullShare} W main_v2) ∗ (rLoc d ↦{fullShare} W main_v3)) := by
  unfold unscopedBufs
  rw [show (Finset.univ.filter fun b : Ref sig .tc => ¬ b.isScoped) = {main_arg0, main_arg1, main_arg2, main_arg3, main_arg4, main_arg5, main_v0, main_v1, main_v2, main_v3} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
/-- Two arrays held. -/
theorem held_two {d : Dev nD} {a b : DevRef τ sig} (h : a ≠ b) (W : Valuation τ sig (Elt F)) :
    (held (SparseCore.T d) {a, b} W : sProp 𝕄) = iprop((((d, a) : Loc nD τ sig) ↦{fullShare} W a) ∗ ((d, b) : Loc nD τ sig) ↦{fullShare} W b) := by
  unfold held
  rw [SparseCore.bigSep_insert' (by simpa using h), bigSep_singleton]

/-- The arrays at the launch, and the call's output at its result. -/
def V0 (d : Dev nD) : Valuation τ sig (Elt F) := fun b => m (d, b)
def V1 (d : Dev nD) : Valuation τ sig (Elt F) := Function.update (V0 m d) t_v2 (RT m d)
theorem V1_o (d : Dev nD) : V1 m d t_v2 = RT m d := Function.update_self _ _ _
theorem V1_r (d : Dev nD) : V1 m d t_v3 = m (rLoc d) := Function.update_of_ne (show t_v3 ≠ t_v2 by decide) _ _

theorem held_x1 (d : Dev nD) : (held (SparseCore.T d) {t_arg0, t_v0} (op1.result (V0 m d)) : sProp 𝕄)
    = iprop((aLoc0 d ↦{fullShare} m (aLoc0 d)) ∗ (x1Loc d ↦{fullShare} X1T m d)) := by
  rw [held_two (show t_arg0 ≠ t_v0 by decide), HloOp.result_of_not_mem _ _ (show t_arg0 ∉ ({t_v0} : Finset (DevRef τ sig)) by decide),
    show (op1 (F := F)).result (V0 m d) t_v0 = X1T m d from (StableHlo.unary_result _ _ _ _ _ _).trans (by rfl)]
  rfl

theorem held_x2 (d : Dev nD) : (held (SparseCore.T d) {t_arg1, t_v1} (op2.result (V0 m d)) : sProp 𝕄)
    = iprop((aLoc1 d ↦{fullShare} m (aLoc1 d)) ∗ (x2Loc d ↦{fullShare} X2T m d)) := by
  rw [held_two (show t_arg1 ≠ t_v1 by decide), HloOp.result_of_not_mem _ _ (show t_arg1 ∉ ({t_v1} : Finset (DevRef τ sig)) by decide),
    show (op2 (F := F)).result (V0 m d) t_v1 = X2T m d from (StableHlo.unary_result _ _ _ _ _ _).trans (by rfl)]
  rfl

theorem held_r (d : Dev nD) : (held (SparseCore.T d) {t_v2, t_v3} (op3.result (V1 m d)) : sProp 𝕄)
    = iprop((oLoc d ↦{fullShare} RT m d) ∗ (rLoc d ↦{fullShare} Rv m d)) := by
  rw [held_two (show t_v2 ≠ t_v3 by decide), HloOp.result_of_not_mem _ _ (show t_v2 ∉ ({t_v3} : Finset (DevRef τ sig)) by decide),
    show (op3 (F := F)).result (V1 m d) t_v3 = Rv m d from (StableHlo.unary_result _ _ _ _ _ _).trans (by rfl)]
  rfl

/-- What the call takes, and what it hands back. -/
theorem st0_eq (d : Dev nD) : (bigSep Finset.univ fun c : Fin ((K (F := F)).nCore 0) => (P m).st 0 d c)
    = iprop(x1Pts d fullShare (X1T m d) ∗ x2Pts d fullShare (X2T m d) ∗ muPts d fullShare (m (muLoc d)) ∗ oLoc d ↦{fullShare} m (oLoc d)) :=
  all_cores d _ _ _ _
theorem dn0_eq (d : Dev nD) : (bigSep Finset.univ fun c : Fin ((K (F := F)).nCore 0) => (P m).dn 0 d c)
    = iprop(x1Pts d fullShare (X1T m d) ∗ x2Pts d fullShare (X2T m d) ∗ muPts d fullShare (m (muLoc d)) ∗ oLoc d ↦{fullShare} RT m d) :=
  all_cores d _ _ _ _

/-- What the program leaves: the arguments at their launch contents, the result at `Rv`. -/
abbrev FIN (d : Dev nD) : sProp 𝕄 := iprop((aLoc0 d ↦{fullShare} m (aLoc0 d)) ∗ (aLoc1 d ↦{fullShare} m (aLoc1 d)) ∗ (aLoc2 d ↦{fullShare} m (aLoc2 d)) ∗ (aLoc3 d ↦{fullShare} m (aLoc3 d)) ∗ (aLoc4 d ↦{fullShare} m (aLoc4 d)) ∗ (muLoc d ↦{fullShare} m (muLoc d)) ∗ (rLoc d ↦{fullShare} Rv m d))

/-- The program on the TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, H4, H5, Hx1, Hx2, Ho, Hr⟩, Hts, -⟩, -⟩
  iapply (wp_hlo_within 𝒱 (SparseCore.T d) none Set.univ (op := op1) (S := {t_arg0, t_v0}) (show ({t_arg0, t_v0} : Finset (DevRef τ sig)) ⊆ {t_arg0, t_v0} by decide) (V := V0 m d)) $$ [Hb H0 Hx1]
  · isplitl [Hb]; · iexact Hb
    rw [held_two (show t_arg0 ≠ t_v0 by decide)]
    isplitl [H0]
    · iexact H0
    · iexact Hx1
  iintro ⟨Hb, Hheld⟩
  ihave Hh := (Entails.of_eq (held_x1 (F := F) m d)) $$ Hheld
  icases Hh with ⟨H0, Hx1⟩
  rw [wp_ret]; imodintro
  iapply (wp_hlo_within 𝒱 (SparseCore.T d) none Set.univ (op := op2) (S := {t_arg1, t_v1}) (show ({t_arg1, t_v1} : Finset (DevRef τ sig)) ⊆ {t_arg1, t_v1} by decide) (V := V0 m d)) $$ [Hb H1 Hx2]
  · isplitl [Hb]; · iexact Hb
    rw [held_two (show t_arg1 ≠ t_v1 by decide)]
    isplitl [H1]
    · iexact H1
    · iexact Hx2
  iintro ⟨Hb, Hheld⟩
  ihave Hh := (Entails.of_eq (held_x2 (F := F) m d)) $$ Hheld
  icases Hh with ⟨H1, Hx2⟩
  rw [wp_ret]; imodintro
  iapply ((K (F := F)).wp_run (D (F := F)) 𝒱 (EH := EH) (P := P m) κ d 0) $$ [Hst Hb H0 H1 H2 H3 H4 H5 Hx1 Hx2 Ho Hr Hts]
  isplitr; · iexact Hctx
  isplitl [Hst]; · iexact Hst
  isplitl [Hx1 Hx2 H5 Ho]
  · rw [st0_eq]
    isplitl [Hx1]; · iexact Hx1
    isplitl [Hx2]; · iexact Hx2
    isplitl [H5]; · iexact H5
    iexact Ho
  iintro ⟨Hst, Hdn⟩
  ihave Hdn' := (Entails.of_eq (dn0_eq m d)) $$ Hdn
  icases Hdn' with ⟨Hx1, Hx2, H5, Ho⟩
  iapply (wp_hlo_within 𝒱 (SparseCore.T d) none Set.univ (op := op3) (S := {t_v2, t_v3}) (show ({t_v2, t_v3} : Finset (DevRef τ sig)) ⊆ {t_v2, t_v3} by decide) (V := V1 m d)) $$ [Hb Ho Hr]
  · isplitl [Hb]; · iexact Hb
    rw [held_two (show t_v2 ≠ t_v3 by decide)]
    isplitl [Ho]
    · first | (rw [V1_o]; iexact Ho) | (rw [V1_r]; iexact Ho)
    · first | (rw [V1_o]; iexact Hr) | (rw [V1_r]; iexact Hr)
  iintro ⟨Hb, Hheld⟩
  ihave Hh := (Entails.of_eq (held_r (F := F) m d)) $$ Hheld
  icases Hh with ⟨Ho, Hr⟩
  rw [wp_ret]; imodintro
  imodintro
  isplitl [Hst]; · iexact Hst
  isplitr [Hb Hts]
  · isplitl [H0]; · iexact H0
    isplitl [H1]; · iexact H1
    isplitl [H2]; · iexact H2
    isplitl [H3]; · iexact H3
    isplitl [H4]; · iexact H4
    isplitl [H5]; · iexact H5
    iexact Hr
  isplitl [Hb] <;> iassumption

/-- What device `d`'s final memory holds. -/
def fq (d : Dev nD) (s' : Phys nD τ sig (Elt F)) : Prop := s'.mem.mem (rLoc d) = Rv m d ∧ s'.mem.mem (aLoc0 d) = m (aLoc0 d) ∧ s'.mem.mem (aLoc1 d) = m (aLoc1 d) ∧ s'.mem.mem (aLoc2 d) = m (aLoc2 d) ∧ s'.mem.mem (aLoc3 d) = m (aLoc3 d) ∧ s'.mem.mem (aLoc4 d) = m (aLoc4 d) ∧ s'.mem.mem (muLoc d) = m (muLoc d)

theorem hfin (d : Dev nD) (s' : Phys nD τ sig (Elt F)) : iprop(FIN m d ∗ SI s') ⊢ (⌜fq m d s'⌝ : sProp 𝕄) := by
  iintro ⟨⟨H0, H1, H2, H3, H4, H5, Hr⟩, HSI⟩
  ihave H := (persistent_entails_right (SI_pointsTo_agree (st := s') (ℓ := aLoc0 d) (I := Finset.univ) (q := fullShare) (f := m (aLoc0 d)))) $$ [HSI H0]
  · isplitl [HSI] <;> iassumption
  icases H with ⟨%h0, HSI, -⟩
  ihave H := (persistent_entails_right (SI_pointsTo_agree (st := s') (ℓ := aLoc1 d) (I := Finset.univ) (q := fullShare) (f := m (aLoc1 d)))) $$ [HSI H1]
  · isplitl [HSI] <;> iassumption
  icases H with ⟨%h1, HSI, -⟩
  ihave H := (persistent_entails_right (SI_pointsTo_agree (st := s') (ℓ := aLoc2 d) (I := Finset.univ) (q := fullShare) (f := m (aLoc2 d)))) $$ [HSI H2]
  · isplitl [HSI] <;> iassumption
  icases H with ⟨%h2, HSI, -⟩
  ihave H := (persistent_entails_right (SI_pointsTo_agree (st := s') (ℓ := aLoc3 d) (I := Finset.univ) (q := fullShare) (f := m (aLoc3 d)))) $$ [HSI H3]
  · isplitl [HSI] <;> iassumption
  icases H with ⟨%h3, HSI, -⟩
  ihave H := (persistent_entails_right (SI_pointsTo_agree (st := s') (ℓ := aLoc4 d) (I := Finset.univ) (q := fullShare) (f := m (aLoc4 d)))) $$ [HSI H4]
  · isplitl [HSI] <;> iassumption
  icases H with ⟨%h4, HSI, -⟩
  ihave H := (persistent_entails_right (SI_pointsTo_agree (st := s') (ℓ := muLoc d) (I := Finset.univ) (q := fullShare) (f := m (muLoc d)))) $$ [HSI H5]
  · isplitl [HSI] <;> iassumption
  icases H with ⟨%h5, HSI, -⟩
  ihave H := (SI_pointsTo_agree (st := s') (ℓ := rLoc d) (I := Finset.univ) (q := fullShare) (f := Rv m d)) $$ [HSI Hr]
  · isplitl [HSI] <;> iassumption
  icases H with %hr
  ipureintro; exact ⟨funext fun i => hr i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i)⟩

/-! ## The run -/

/-- Every device's result is `Rv`, its arguments are unchanged, and no semaphore is left raised. -/
def QC : PUnit × MemSt nD τ sig (Elt F) → Prop := fun r => (∀ c : Dev nD, r.2.mem (rLoc c) = Rv m c ∧ r.2.mem (aLoc0 c) = m (aLoc0 c) ∧ r.2.mem (aLoc1 c) = m (aLoc1 c) ∧ r.2.mem (aLoc2 c) = m (aLoc2 c) ∧ r.2.mem (aLoc3 c) = m (aLoc3 c) ∧ r.2.mem (aLoc4 c) = m (aLoc4 c) ∧ r.2.mem (muLoc c) = m (muLoc c)) ∧ r.2.sem = fun _ => 0

/-- The program runs to its end, and ends as `QC` says. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sc
-- ==== Proof.Lane.lean ====
/-
  The kernel's arithmetic against the plain sum: for finite entries, the grouped expression that the kernel evaluates for one
  element is the sum of the component's terms.
-/
module

public import proofs.«01_k».proof.Proof.Formula
public import Idealize.ShloMosaic.PureOps.Ideal.Laws

@[expose] public section

noncomputable section

namespace Cert.Proof.Sc

open Idealize.ShloMosaic

/-- A term of the contraction: the component of `X1`, the component of `X2`, the coefficient, and whether it is subtracted. -/
abbrev Term := Fin 9 × Fin 9 × Fin 25 × Bool

/-- The terms of output component `j`, in the order of the tables. -/
def termsOf (j : Fin 7) : List Term :=
  match j with
  | 0 => [
    (8, 5, 0, true), (0, 3, 0, true), (7, 4, 1, false), (6, 5, 2, false), (2, 3, 2, true), (5, 6, 3, false),
    (3, 2, 3, true), (4, 7, 4, false), (5, 8, 5, true), (3, 0, 5, true)]
  | 1 => [
    (8, 6, 6, false), (0, 2, 6, false), (7, 5, 7, true), (1, 3, 7, true), (6, 4, 8, false), (5, 5, 9, false),
    (3, 3, 9, true), (4, 6, 10, false), (5, 7, 11, true), (3, 1, 11, true), (6, 8, 12, false), (2, 0, 12, false)]
  | 2 => [
    (8, 7, 13, true), (0, 1, 13, true), (7, 6, 14, false), (1, 2, 14, false), (6, 5, 15, true), (2, 3, 15, true),
    (5, 4, 16, false), (4, 5, 17, false), (5, 6, 18, true), (3, 2, 18, true), (6, 7, 19, false), (2, 1, 19, false),
    (7, 8, 20, true), (1, 0, 20, true)]
  | 3 => [
    (8, 0, 21, false), (0, 8, 21, true), (7, 1, 22, true), (1, 7, 22, false), (6, 2, 23, false), (2, 6, 23, true),
    (5, 3, 24, true), (3, 5, 24, false)]
  | 4 => [
    (8, 1, 13, true), (0, 7, 13, false), (7, 2, 14, false), (1, 6, 14, true), (6, 3, 15, true), (2, 5, 15, false),
    (3, 4, 16, true), (4, 3, 17, true), (5, 2, 18, false), (3, 6, 18, true), (6, 1, 19, true), (2, 7, 19, false),
    (7, 0, 20, false), (1, 8, 20, true)]
  | 5 => [
    (8, 2, 6, false), (0, 6, 6, true), (7, 3, 7, true), (1, 5, 7, false), (2, 4, 8, true), (5, 3, 9, true),
    (3, 5, 9, true), (4, 2, 10, true), (5, 1, 11, false), (3, 7, 11, true), (6, 0, 12, true), (2, 8, 12, false)]
  | 6 => [
    (8, 3, 0, true), (0, 5, 0, false), (1, 4, 1, true), (6, 3, 2, true), (2, 5, 2, true), (5, 2, 3, true),
    (3, 6, 3, true), (4, 1, 4, true), (5, 0, 5, false), (3, 8, 5, true)]

/-- What a term adds: the product of its two entries and its signed coefficient. -/
def termVal (a b : Fin 9 → EReal) (c : Fin 25 → EReal) (t : Term) : EReal :=
  a t.1 * b t.2.1 * (if t.2.2.2 then -c t.2.2.1 else c t.2.2.1)

/-- The same over the reals. -/
def termReal (a b : Fin 9 → ℝ) (c : Fin 25 → ℝ) (t : Term) : ℝ :=
  a t.1 * b t.2.1 * (if t.2.2.2 then -c t.2.2.1 else c t.2.2.1)

/-- Of finite entries a sum of terms is the real sum. -/
theorem sum_termVal (a b : Fin 9 → ℝ) (c : Fin 25 → ℝ) (l : List Term) :
    (l.map (termVal (fun p => (a p : EReal)) (fun p => (b p : EReal)) (fun q => (c q : EReal)))).sum = ((l.map (termReal a b c)).sum : ℝ) := by
  induction l with
  | nil => rfl
  | cons t l ih =>
    rw [List.map_cons, List.sum_cons, ih, List.map_cons, List.sum_cons, EReal.coe_add]
    congr 1
    unfold termVal termReal
    cases t.2.2.2
    · rw [if_neg Bool.false_ne_true, if_neg Bool.false_ne_true, EReal.coe_mul, EReal.coe_mul]
    · rw [if_pos rfl, if_pos rfl, EReal.coe_mul, EReal.coe_mul, EReal.coe_neg]

/-- Zero minus a number, one lane of `neg`. -/
theorem neg_apply (s : Shape) (x : FVec Ideal s .f32) (i : s.Idx) : neg x i = (0 : EReal) - (x i : EReal) := by
  show Ideal.ofBits .f32 0x00000000#32 - (x i : EReal) = _
  rw [Ideal.ofBits_zero_f32]

/-- One lane of a sum. -/
theorem addf_lane (s : Shape) (x y : FVec Ideal s .f32) (i : s.Idx) : addf x y i = (x i + y i : EReal) := rfl
/-- One lane of a difference. -/
theorem subf_lane (s : Shape) (x y : FVec Ideal s .f32) (i : s.Idx) : subf x y i = (x i - y i : EReal) := rfl
/-- One lane of a product. -/
theorem mulf_lane (s : Shape) (x y : FVec Ideal s .f32) (i : s.Idx) : mulf x y i = (x i * y i : EReal) := rfl

/-- For finite entries and coefficients, the kernel's expression for component `j` is the sum of the component's terms. -/
theorem lane_eq (j : Fin 7) (a b : Fin 9 → ℝ) (c : Fin 25 → ℝ) :
    lane (F := Ideal) j (fun p => (a p : EReal)) (fun p => (b p : EReal)) (fun q => (c q : EReal))
      = (((termsOf j).map (termVal (fun p => (a p : EReal)) (fun p => (b p : EReal)) (fun q => (c q : EReal)))).sum : EReal) := by
  rw [sum_termVal]
  unfold lane
  match j with
  | 0 =>
    simp only [outV, out0, neg_apply, addf_lane, subf_lane, mulf_lane, ← EReal.coe_mul, ← EReal.coe_add, ← EReal.coe_sub, ← EReal.coe_zero]
    refine congrArg _ ?_
    simp only [termsOf, termReal, List.map_cons, List.map_nil, List.sum_cons, List.sum_nil, if_true, if_false, Bool.false_eq_true]
    ring
  | 1 =>
    simp only [outV, out1, neg_apply, addf_lane, subf_lane, mulf_lane, ← EReal.coe_mul, ← EReal.coe_add, ← EReal.coe_sub, ← EReal.coe_zero]
    refine congrArg _ ?_
    simp only [termsOf, termReal, List.map_cons, List.map_nil, List.sum_cons, List.sum_nil, if_true, if_false, Bool.false_eq_true]
    ring
  | 2 =>
    simp only [outV, out2, neg_apply, addf_lane, subf_lane, mulf_lane, ← EReal.coe_mul, ← EReal.coe_add, ← EReal.coe_sub, ← EReal.coe_zero]
    refine congrArg _ ?_
    simp only [termsOf, termReal, List.map_cons, List.map_nil, List.sum_cons, List.sum_nil, if_true, if_false, Bool.false_eq_true]
    ring
  | 3 =>
    simp only [outV, out3, neg_apply, addf_lane, subf_lane, mulf_lane, ← EReal.coe_mul, ← EReal.coe_add, ← EReal.coe_sub, ← EReal.coe_zero]
    refine congrArg _ ?_
    simp only [termsOf, termReal, List.map_cons, List.map_nil, List.sum_cons, List.sum_nil, if_true, if_false, Bool.false_eq_true]
    ring
  | 4 =>
    simp only [outV, out4, neg_apply, addf_lane, subf_lane, mulf_lane, ← EReal.coe_mul, ← EReal.coe_add, ← EReal.coe_sub, ← EReal.coe_zero]
    refine congrArg _ ?_
    simp only [termsOf, termReal, List.map_cons, List.map_nil, List.sum_cons, List.sum_nil, if_true, if_false, Bool.false_eq_true]
    ring
  | 5 =>
    simp only [outV, out5, neg_apply, addf_lane, subf_lane, mulf_lane, ← EReal.coe_mul, ← EReal.coe_add, ← EReal.coe_sub, ← EReal.coe_zero]
    refine congrArg _ ?_
    simp only [termsOf, termReal, List.map_cons, List.map_nil, List.sum_cons, List.sum_nil, if_true, if_false, Bool.false_eq_true]
    ring
  | 6 =>
    simp only [outV, out6, neg_apply, addf_lane, subf_lane, mulf_lane, ← EReal.coe_mul, ← EReal.coe_add, ← EReal.coe_sub, ← EReal.coe_zero]
    refine congrArg _ ?_
    simp only [termsOf, termReal, List.map_cons, List.map_nil, List.sum_cons, List.sum_nil, if_true, if_false, Bool.false_eq_true]
    ring

end Cert.Proof.Sc

end
-- ==== Proof.Setup.lean ====
/-
  The precondition read element by element: the entries are finite, the index arguments are the tables, and every multiplier
  is, up to its sign, the absolute value of the one that represents it.
-/
module

public import proofs.«01_k».proof.Proof.Formula
public import proofs.«01_k».proof.Proof.Gen.Pre_tables_of_setup
public import Idealize.ShloMosaic.Lib.StableHlo.Predicate
public import Idealize.ShloMosaic.Lib.IdealHost
public import Idealize.ShloMosaic.PureOps.Ideal.Laws

@[expose] public section

noncomputable section

namespace Cert.Proof.Sc

open Cert.Pre_tables_of_setup Cert.Pre_tables_of_setup.Gen
open Idealize.ShloMosaic

/-- The multiplier that represents term `k`'s absolute coefficient. -/
def repOf (k : Fin 80) : Fin 80 := Fin.ofNat 80 (lit3 k).toNat

/-- The row-major position of a vector's entry. -/
theorem rowMajor_ix1 (k : Fin 80) : S80.rowMajor (ix1 k) = k := Fin.ext (Shape.rowMajor_val_one (ix1 k))

/-- A number below infinity in absolute value is a real number. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    have h' : BitVec.ofBool (decide (max x (-x) < ⊤)) = 1#1 := h
    rw [StableHlo.Predicate.ofBool_eq_one_iff] at h'
    exact of_decide_eq_true h'
  induction x using EReal.rec with
  | bot => exact absurd hlt (by simp)
  | top => exact absurd hlt (by simp)
  | coe r => exact ⟨r, rfl⟩

/-- The precondition's seven statements, element by element. -/
structure Setup (x1 x2 : FVec Ideal S4096x256x9 .f32) (t1 t2 t3 : IVec S80 32) (mult : FVec Ideal S80 .f32) : Prop where
  fin1 : ∀ i, ∃ r : ℝ, x1 i = (r : EReal)
  fin2 : ∀ i, ∃ r : ℝ, x2 i = (r : EReal)
  tab1 : ∀ k, t1 (ix1 k) = lit0 k
  tab2 : ∀ k, t2 (ix1 k) = lit1 k
  tab3 : ∀ k, t3 (ix1 k) = lit2 k
  finM : ∀ k, ∃ r : ℝ, mult (ix1 k) = (r : EReal)
  sign : ∀ k, mult (ix1 k) = if lit4 k = 1#1 then -(FloatOps.absf (mult (ix1 (repOf k))) : EReal) else FloatOps.absf (mult (ix1 (repOf k)))

/-- The gather of the absolute values at the representatives. -/
theorem gather_rep (v : FVec Ideal S80 .f32) (y : IVec S80 32) (k : Fin 80) :
    Host.gather gather_S80_S80x1_S80_n_0_n_n_0_1_1 v
        (broadcastInDim S80x1 ![0] Facts.bcast_S80_S80x1_0 (select (constantI S80 1 0#1) y (fun i => lit3 (S80.rowMajor i)))) (ix1 k)
      = v (ix1 (repOf k)) := by
  have hk : (ix1 k : S80.Idx) = Shape.Idx.ofFin k := by
    funext a
    match a with
    | ⟨0, _⟩ => rfl
  have hr : (ix1 (repOf k) : S80.Idx) = Shape.Idx.ofFin (repOf k) := by
    funext a
    match a with
    | ⟨0, _⟩ => rfl
  rw [hk, StableHlo.Predicate.gather_take _ rfl rfl rfl rfl _ _ _ (by omega), hr]
  refine congrArg v (congrArg Shape.Idx.ofFin (Fin.ext ?_))
  have hb : broadcastInDim S80x1 ![0] Facts.bcast_S80_S80x1_0 (select (constantI S80 1 0#1) y (fun i => lit3 (S80.rowMajor i)))
      (StableHlo.Predicate.ixP k) = lit3 k := by
    refine (StableHlo.Predicate.bcast_col1 _ _ k).trans ?_
    rw [← hk]
    show lit3 (S80.rowMajor (ix1 k)) = lit3 k
    rw [rowMajor_ix1]
  refine (congrArg (fun w : BitVec 32 => min w.toInt.toNat 79) hb).trans ?_
  clear hb hk hr v y
  revert k
  decide +kernel

/-- The precondition as the claims state it gives these. -/
theorem setup_of_pre (x1 x2 : FVec Ideal S4096x256x9 .f32) (t1 t2 t3 : IVec S80 32) (mult : FVec Ideal S80 .f32)
    (h : (fn (F := Ideal) x1 x2 t1 t2 t3 mult).1 = (fun _ => 1#1) ∧ (fn (F := Ideal) x1 x2 t1 t2 t3 mult).2.1 = (fun _ => 1#1)
      ∧ (fn (F := Ideal) x1 x2 t1 t2 t3 mult).2.2.1 = (fun _ => 1#1) ∧ (fn (F := Ideal) x1 x2 t1 t2 t3 mult).2.2.2.1 = (fun _ => 1#1)
      ∧ (fn (F := Ideal) x1 x2 t1 t2 t3 mult).2.2.2.2.1 = (fun _ => 1#1) ∧ (fn (F := Ideal) x1 x2 t1 t2 t3 mult).2.2.2.2.2.1 = (fun _ => 1#1)
      ∧ (fn (F := Ideal) x1 x2 t1 t2 t3 mult).2.2.2.2.2.2 = (fun _ => 1#1)) :
    Setup x1 x2 t1 t2 t3 mult := by
  obtain ⟨h1, h2, h3, h4, h5, h6, h7⟩ := h
  have tab : ∀ (t : IVec S80 32) (l : Fin 80 → BitVec 32), cmpi .eq t (fun i => l (S80.rowMajor i)) = (fun _ => 1#1) → ∀ k, t (ix1 k) = l k := by
    intro t l e k
    have e' : IntOp.cmpi .eq (t (ix1 k)) (l (S80.rowMajor (ix1 k))) = 1#1 := congrFun e (ix1 k)
    rw [rowMajor_ix1] at e'
    exact StableHlo.Predicate.cmpi_eq_iff.mp e'
  refine ⟨fun i => ?_, fun i => ?_, tab t1 lit0 h3, tab t2 lit1 h4, tab t3 lit2 h5, fun k => ?_, fun k => ?_⟩
  · exact real_of_abs_lt _ (congrFun h1 i)
  · exact real_of_abs_lt _ (congrFun h2 i)
  · exact real_of_abs_lt _ (congrFun h6 (ix1 k))
  · have e : Ideal.cmp .oeq (mult (ix1 k))
        (select (fun i => lit4 (S80.rowMajor i)) (Host.negf (Host.gather gather_S80_S80x1_S80_n_0_n_n_0_1_1 (Host.absf mult) _))
          (Host.gather gather_S80_S80x1_S80_n_0_n_n_0_1_1 (Host.absf mult) _) (ix1 k)) = 1#1 := congrFun h7 (ix1 k)
    have e' : mult (ix1 k) = _ := of_decide_eq_true ((StableHlo.Predicate.ofBool_eq_one_iff _).mp e)
    rw [e']
    show (if lit4 (S80.rowMajor (ix1 k)) = 1#1 then (-(Host.gather gather_S80_S80x1_S80_n_0_n_n_0_1_1 (Host.absf mult) _ (ix1 k) : EReal) : EReal)
      else Host.gather gather_S80_S80x1_S80_n_0_n_n_0_1_1 (Host.absf mult) _ (ix1 k)) = _
    rw [gather_rep, rowMajor_ix1]
    rfl

end Cert.Proof.Sc

end
-- ==== Proof.Reference.lean ====
/-
  The reference's result, element by element: the sum, over the terms that go to the element's component, of the product of
  the two gathered entries and the multiplier.
-/
module

public import proofs.«01_k».proof.Proof.Formula
public import proofs.«01_k».proof.Proof.Gen.ReferenceIdeal
public import Idealize.ShloMosaic.Lib.StableHlo.Predicate
public import Idealize.ShloMosaic.Lib.Routing.OpsPair
public import Idealize.ShloMosaic.Lib.IdealHost
public import Idealize.ShloMosaic.PureOps.Ideal.Laws

@[expose] public section

noncomputable section

namespace Cert.Proof.Sc

open Cert.ReferenceIdeal Cert.ReferenceIdeal.Gen
open Idealize.ShloMosaic

/-- An index of a rank-three array is its three coordinates. -/
theorem ix3_eta {n₀ n₁ n₂ : ℕ} (i : (⟨3, ![n₀, n₁, n₂]⟩ : Shape).Idx) : ix3 (i 0) (i 1) (i 2) = i := by
  funext a
  match a with
  | 0 => rfl
  | 1 => rfl
  | 2 => rfl

/-- The last coordinate of a gathered entry's index: its term. -/
def term (u : S4096x256x80.Idx) : Fin 80 := u 2

/-- Row `k` of the column that holds the start indices. -/
abbrev startRow (k : Fin 80) : S80x1.Idx := StableHlo.Predicate.ixP k

/-- An index word as the host passes it on: the array's length added where it is negative. -/
def wrapped (n : BitVec 32) (t : IVec S80 32) : IVec S80x1 32 :=
  broadcastInDim S80x1 ![0] bcast_S80_S80x1_0 (select (cmpi .slt t (broadcastInDim S80 ![] bcast_S_S80 (constantI S_ 32 0#32)))
    (addi t (broadcastInDim S80 ![] bcast_S_S80 (constantI S_ 32 n))) t)

/-- A word that is not negative is passed on as it is. -/
theorem wrapped_apply (n : BitVec 32) (t : IVec S80 32) (k : Fin 80) (p : ℕ) (hp : p < 9) (h : t (ix1 k) = BitVec.ofNat 32 p) :
    wrapped n t (startRow k) = BitVec.ofNat 32 p := by
  have e : wrapped n t (startRow k) = Scalar.select (IntOp.cmpi .slt (t (ix1 k)) 0#32) (t (ix1 k) + n) (t (ix1 k)) := by
    have hi : ∀ (v : IVec S80 32), broadcastInDim S80x1 ![0] bcast_S80_S80x1_0 v (startRow k) = v (ix1 k) := fun v => by
      unfold broadcastInDim
      congr 1
      funext a
      match a with
      | ⟨0, _⟩ => rfl
    unfold wrapped
    rw [hi]
    rfl
  rw [e, h, show IntOp.cmpi .slt (BitVec.ofNat 32 p) 0#32 = 0#1 by interval_cases p <;> rfl]
  rfl

/-- The gather's operand index: the row's two coordinates and the entry that the start index names. -/
theorem gather_entry (x : FVec Ideal S4096x256x9 .f32) (idx : IVec S80x1 32) (a : Fin 4096) (b : Fin 256) (k : Fin 80) (p : Fin 9)
    (h : idx (startRow k) = BitVec.ofNat 32 p.val) :
    Host.gather gather_S4096x256x9_S80x1_S4096x256x80_01_2_n_n_2_1_40962561 x idx (ix3 a b k) = x (ix3 a b p) := by
  unfold Host.gather
  congr 1
  funext d
  have hs : ∀ c, gather_S4096x256x9_S80x1_S4096x256x80_01_2_n_n_2_1_40962561.siIdx (ix3 a b k) c = startRow k := fun c => by
    funext e
    match e with
    | ⟨0, _⟩ => rfl
    | ⟨1, _⟩ => exact Subsingleton.elim (α := Fin 1) _ _
  match d with
  | ⟨0, _⟩ => exact Fin.ext (by show 0 + 0 + a.val = a.val; omega)
  | ⟨1, _⟩ => exact Fin.ext (by show 0 + 0 + b.val = b.val; omega)
  | ⟨2, _⟩ =>
    refine Fin.ext ?_
    show min (idx (gather_S4096x256x9_S80x1_S4096x256x80_01_2_n_n_2_1_40962561.siIdx (ix3 a b k) _)).toInt.toNat 8 + 0 + 0 = p.val
    rw [hs, h]
    clear h
    revert p
    decide

/-- Update `u` lands at `(a, b, j)` exactly when its row is `(a, b)` and its term's component is `j`. -/
theorem scatter_lands (idx : IVec S80x1 32) (mu : Fin 80 → Fin 7) (h : ∀ k, idx (startRow k) = BitVec.ofNat 32 (mu k).val)
    (a : Fin 4096) (b : Fin 256) (j : Fin 7) (u : S4096x256x80.Idx) :
    scatter_S4096x256x7_S80x1_S4096x256x80_01_2_2_1.resultIdx? u idx = some (ix3 a b j) ↔ u 0 = a ∧ u 1 = b ∧ mu (term u) = j := by
  rw [Routing.resultIdx?_eq_some]
  have hs : ∀ c, scatter_S4096x256x7_S80x1_S4096x256x80_01_2_2_1.siIdx u c = startRow (term u) := fun c => by
    funext e
    match e with
    | ⟨0, _⟩ => rfl
    | ⟨1, _⟩ => exact Subsingleton.elim (α := Fin 1) _ _
  have h2 : scatter_S4096x256x7_S80x1_S4096x256x80_01_2_2_1.start u idx 2 = ((mu (term u)).val : Int) := by
    show (idx (scatter_S4096x256x7_S80x1_S4096x256x80_01_2_2_1.siIdx u _)).toInt = _
    rw [hs, h]
    generalize mu (term u) = q
    revert q
    decide
  constructor
  · intro q
    have q0 : (0 : Int) + ((u 0).val : Int) = (a.val : Int) := q 0
    have q1 : (0 : Int) + ((u 1).val : Int) = (b.val : Int) := q 1
    have q2 := q 2
    rw [h2] at q2
    have q2' : ((mu (term u)).val : Int) + ((0 : ℕ) : Int) = (j.val : Int) := q2
    exact ⟨Fin.ext (by omega), Fin.ext (by omega), Fin.ext (by omega)⟩
  · rintro ⟨q0, q1, q2⟩ d
    match d with
    | ⟨0, _⟩ => show (0 : Int) + ((u 0).val : Int) = (a.val : Int); rw [q0]; omega
    | ⟨1, _⟩ => show (0 : Int) + ((u 1).val : Int) = (b.val : Int); rw [q1]; omega
    | ⟨2, _⟩ =>
      show scatter_S4096x256x7_S80x1_S4096x256x80_01_2_2_1.start u idx 2 + ((0 : ℕ) : Int) = (j.val : Int)
      rw [h2, q2]; omega

/-- The reference's result as its program composes it. -/
def refV (x1 x2 : FVec Ideal S4096x256x9 .f32) (t1 t2 t3 : IVec S80 32) (mult : FVec Ideal S80 .f32) : FVec Ideal S4096x256x7 .f32 :=
  Host.scatterAdd scatter_S4096x256x7_S80x1_S4096x256x80_01_2_2_1 (broadcastInDim S4096x256x7 ![] bcast_S_S4096x256x7 (constant S_ .f32 0x00000000#32))
    (wrapped 7#32 t3)
    (mulf (mulf (Host.gather gather_S4096x256x9_S80x1_S4096x256x80_01_2_n_n_2_1_40962561 x1 (wrapped 9#32 t1))
        (Host.gather gather_S4096x256x9_S80x1_S4096x256x80_01_2_n_n_2_1_40962561 x2 (wrapped 9#32 t2)))
      (broadcastInDim S4096x256x80 ![0, 1, 2] bcast_S1x1x80_S4096x256x80_0_1_2 (broadcastInDim S1x1x80 ![2] bcast_S80_S1x1x80_2 mult)))

/-- Where the index arguments hold the tables `m1`, `m2`, `mu`, the reference's element `(a, b, j)` is the sum, over the
    terms of component `j`, of the products of the entries that the tables name and the multiplier. -/
theorem refV_apply (x1 x2 : FVec Ideal S4096x256x9 .f32) (t1 t2 t3 : IVec S80 32) (mult : FVec Ideal S80 .f32)
    (m1 m2 : Fin 80 → Fin 9) (mu : Fin 80 → Fin 7) (h1 : ∀ k, t1 (ix1 k) = BitVec.ofNat 32 (m1 k).val)
    (h2 : ∀ k, t2 (ix1 k) = BitVec.ofNat 32 (m2 k).val) (h3 : ∀ k, t3 (ix1 k) = BitVec.ofNat 32 (mu k).val)
    (a : Fin 4096) (b : Fin 256) (j : Fin 7) :
    refV x1 x2 t1 t2 t3 mult (ix3 a b j)
      = ∑ k ∈ Finset.univ.filter (fun k => mu k = j), ((x1 (ix3 a b (m1 k)) : EReal) * x2 (ix3 a b (m2 k)) * mult (ix1 k) : EReal) := by
  have hz : (broadcastInDim S4096x256x7 ![] bcast_S_S4096x256x7 (constant (F := Ideal) S_ .f32 0x00000000#32)) (ix3 a b j) = (0 : EReal) := by
    rw [ValueIdx.broadcastInDim_scalar_apply]
    exact Ideal.ofBits_zero_f32
  show (_ : EReal) + ∑ u ∈ Finset.univ.filter _, _ = _
  rw [hz, zero_add]
  refine Finset.sum_bij' (fun u _ => term u) (fun k _ => ix3 a b k) ?_ ?_ ?_ ?_ ?_
  · intro u hu
    rw [Finset.mem_filter] at hu ⊢
    exact ⟨Finset.mem_univ _, ((scatter_lands _ mu (fun k => wrapped_apply 7#32 t3 k _ (by omega) (h3 k)) a b j u).mp hu.2).2.2⟩
  · intro k hk
    rw [Finset.mem_filter] at hk ⊢
    exact ⟨Finset.mem_univ _, (scatter_lands _ mu (fun k => wrapped_apply 7#32 t3 k _ (by omega) (h3 k)) a b j _).mpr ⟨rfl, rfl, hk.2⟩⟩
  · intro u hu
    rw [Finset.mem_filter] at hu
    obtain ⟨q0, q1, _⟩ := (scatter_lands _ mu (fun k => wrapped_apply 7#32 t3 k _ (by omega) (h3 k)) a b j u).mp hu.2
    rw [← q0, ← q1]
    exact ix3_eta u
  · intro k _
    rfl
  · intro u hu
    rw [Finset.mem_filter] at hu
    obtain ⟨q0, q1, _⟩ := (scatter_lands _ mu (fun k => wrapped_apply 7#32 t3 k _ (by omega) (h3 k)) a b j u).mp hu.2
    have hu' : u = ix3 a b (term u) := by
      rw [← q0, ← q1]
      exact (ix3_eta u).symm
    have e1 := gather_entry x1 (wrapped 9#32 t1) a b (term u) (m1 (term u)) (wrapped_apply 9#32 t1 _ _ (by omega) (h1 _))
    have e2 := gather_entry x2 (wrapped 9#32 t2) a b (term u) (m2 (term u)) (wrapped_apply 9#32 t2 _ _ (by omega) (h2 _))
    have e3 : broadcastInDim S4096x256x80 ![0, 1, 2] bcast_S1x1x80_S4096x256x80_0_1_2 (broadcastInDim S1x1x80 ![2] bcast_S80_S1x1x80_2 mult)
        (ix3 a b (term u)) = mult (ix1 (term u)) := by
      unfold broadcastInDim
      congr 1
      funext d
      match d with
      | ⟨0, _⟩ => rfl
    rw [← e1, ← e2, ← e3, ← hu']
    rfl

end Cert.Proof.Sc

end
-- ==== Proof.Value.lean ====
/-
  The kernel's result is the reference's, element by element, where the precondition holds.
-/
module

public import proofs.«01_k».proof.Proof.Gen.KernelIdeal
public import proofs.«01_k».proof.Proof.Lane
public import proofs.«01_k».proof.Proof.Setup
public import proofs.«01_k».proof.Proof.Reference

@[expose] public section

noncomputable section

namespace Cert.Proof.Sc

open Cert.Pre_tables_of_setup
open Idealize.ShloMosaic

/-- The component of `X1` that term `k` reads. -/
def fstOf (k : Fin 80) : Fin 9 := Fin.ofNat 9 (lit0 k).toNat
/-- The component of `X2` that term `k` reads. -/
def sndOf (k : Fin 80) : Fin 9 := Fin.ofNat 9 (lit1 k).toNat
/-- The component of the result that term `k` goes to. -/
def dstOf (k : Fin 80) : Fin 7 := Fin.ofNat 7 (lit2 k).toNat

theorem lit0_eq (k : Fin 80) : lit0 k = BitVec.ofNat 32 (fstOf k).val := by revert k; decide +kernel
theorem lit1_eq (k : Fin 80) : lit1 k = BitVec.ofNat 32 (sndOf k).val := by revert k; decide +kernel
theorem lit2_eq (k : Fin 80) : lit2 k = BitVec.ofNat 32 (dstOf k).val := by revert k; decide +kernel

/-- The positions of the terms of component `j`. -/
def rowsOf (j : Fin 7) : List (Fin 80) := (List.finRange 80).filter fun k => decide (dstOf k = j)

/-- The tables' terms of component `j` are the kernel's: the same entries, representatives and signs, in the same order. -/
theorem rowsOf_terms (j : Fin 7) :
    (rowsOf j).map (fun k => (fstOf k, sndOf k, repOf k, decide (lit4 k = 1#1))) = (termsOf j).map (fun t => (t.1, t.2.1, rep t.2.2.1, t.2.2.2)) := by
  revert j; decide +kernel

/-- A sum over the terms of component `j` is the sum of the list. -/
theorem sum_rows (j : Fin 7) (f : Fin 80 → EReal) : ∑ k ∈ Finset.univ.filter (fun k => dstOf k = j), f k = ((rowsOf j).map f).sum := by
  have hn : (rowsOf j).Nodup := (List.nodup_finRange 80).filter _
  rw [← List.sum_toFinset f hn]
  refine Finset.sum_congr (Finset.ext fun k => ?_) fun _ _ => rfl
  rw [List.mem_toFinset, rowsOf, List.mem_filter, Finset.mem_filter, decide_eq_true_iff]
  exact ⟨fun h => ⟨List.mem_finRange k, h.2⟩, fun h => ⟨Finset.mem_univ k, h.2⟩⟩

/-- The absolute value of a real number is one. -/
theorem absf_real (r : ℝ) : (FloatOps.absf (F := Ideal) (φ := .f32) (r : EReal) : EReal) = ((|r| : ℝ) : EReal) := by
  show max (r : EReal) (-(r : EReal)) = _
  rw [← EReal.coe_neg]
  exact (EReal.coe_strictMono.monotone.map_max (a := r) (b := -r)).symm

/-- A sum over the tables' terms of component `j` is the sum of the kernel's terms. -/
theorem sum_table (j : Fin 7) (a b : Fin 9 → EReal) (c : Fin 80 → EReal) :
    ((rowsOf j).map fun k => a (fstOf k) * b (sndOf k) * (if lit4 k = 1#1 then -c (repOf k) else c (repOf k))).sum
      = ((termsOf j).map (termVal a b fun q => c (rep q))).sum := by
  have e := congrArg (List.map fun t : Fin 9 × Fin 9 × Fin 80 × Bool => a t.1 * b t.2.1 * (if t.2.2.2 then -c t.2.2.1 else c t.2.2.1)) (rowsOf_terms j)
  rw [List.map_map, List.map_map] at e
  refine congrArg List.sum (Eq.trans (List.map_congr_left fun k _ => ?_) e)
  simp only [Function.comp_apply]
  generalize lit4 k = s
  simp only [decide_eq_true_eq]

/-- The kernel's result read at an element: the lane's arithmetic of the entries of that row. -/
theorem kernel_apply (x1 x2 : FVec Ideal S4096x256x9 .f32) (mult : FVec Ideal S80 .f32) (a : Fin 4096) (b : Fin 256) (j : Fin 7) :
    transpose Cert.KernelIdeal.S4096x256x7 [1, 2, 0]
        (result (transpose Cert.KernelIdeal.S9x4096x256 [2, 0, 1] x1 Cert.KernelIdeal.Gen.transposes_S4096x256x9_S9x4096x256_2_0_1)
          (transpose Cert.KernelIdeal.S9x4096x256 [2, 0, 1] x2 Cert.KernelIdeal.Gen.transposes_S4096x256x9_S9x4096x256_2_0_1) mult)
        Cert.KernelIdeal.Gen.transposes_S7x4096x256_S4096x256x7_1_2_0 (ix3 a b j)
      = lane (F := Ideal) j (fun p => x1 (ix3 a b p)) (fun p => x2 (ix3 a b p)) (coef mult) := by
  have tr : ∀ (x : FVec Ideal S4096x256x9 .f32) (p : Fin 9),
      transpose Cert.KernelIdeal.S9x4096x256 [2, 0, 1] x Cert.KernelIdeal.Gen.transposes_S4096x256x9_S9x4096x256_2_0_1 (ix3 p a b)
        = x (ix3 a b p) := fun x p => by
    unfold transpose
    congr 1
    funext d
    match d with
    | 0 => rfl
    | 1 => rfl
    | 2 => rfl
  have tj : ∀ (y : FVec Ideal Cert.KernelIdeal.S7x4096x256 .f32),
      transpose Cert.KernelIdeal.S4096x256x7 [1, 2, 0] y Cert.KernelIdeal.Gen.transposes_S7x4096x256_S4096x256x7_1_2_0 (ix3 a b j)
        = y (ix3 j a b) := fun y => by
    unfold transpose
    congr 1
    funext d
    match d with
    | 0 => rfl
    | 1 => rfl
    | 2 => rfl
  rw [tj]
  have e : ∀ y1 y2 : FVec Ideal Cert.KernelIdeal.S9x4096x256 .f32, result y1 y2 mult (ix3 j a b)
      = lane (F := Ideal) j (fun p => y1 (ix3 p a b)) (fun p => y2 (ix3 p a b)) (coef mult) := fun _ _ => rfl
  rw [e, funext (tr x1), funext (tr x2)]

/-- Under the precondition the reference's element is the lane's arithmetic. -/
theorem reference_apply (x1 x2 : FVec Ideal S4096x256x9 .f32) (t1 t2 t3 : IVec S80 32) (mult : FVec Ideal S80 .f32) (h : Setup x1 x2 t1 t2 t3 mult)
    (a : Fin 4096) (b : Fin 256) (j : Fin 7) :
    refV x1 x2 t1 t2 t3 mult (ix3 a b j) = lane (F := Ideal) j (fun p => x1 (ix3 a b p)) (fun p => x2 (ix3 a b p)) (coef mult) := by
  choose r1 hr1 using h.fin1
  choose r2 hr2 using h.fin2
  choose c hc using h.finM
  have e1 : (fun p => x1 (ix3 a b p)) = fun p => (r1 (ix3 a b p) : EReal) := funext fun p => hr1 _
  have e2 : (fun p => x2 (ix3 a b p)) = fun p => (r2 (ix3 a b p) : EReal) := funext fun p => hr2 _
  have e3 : coef mult = fun q => ((|c (rep q)| : ℝ) : EReal) := funext fun q => by
    unfold coef
    rw [hc, absf_real]
  have e4 : ∀ k, mult (ix1 k) = if lit4 k = 1#1 then -((|c (repOf k)| : ℝ) : EReal) else ((|c (repOf k)| : ℝ) : EReal) := fun k => by
    rw [h.sign k, hc, absf_real]
  rw [refV_apply x1 x2 t1 t2 t3 mult fstOf sndOf dstOf (fun k => (h.tab1 k).trans (lit0_eq k)) (fun k => (h.tab2 k).trans (lit1_eq k))
    (fun k => (h.tab3 k).trans (lit2_eq k)), sum_rows, e1, e2, e3, lane_eq]
  refine Eq.trans (congrArg List.sum (List.map_congr_left fun k _ => ?_))
    (sum_table j (fun p => (r1 (ix3 a b p) : EReal)) (fun p => (r2 (ix3 a b p) : EReal)) (fun k => ((|c k| : ℝ) : EReal)))
  rw [e4 k, hr1, hr2]

/-- Under the precondition the reference's result is the transposed result of the kernel's call on the transposed operands. -/
theorem value_eq (x1 x2 : FVec Ideal S4096x256x9 .f32) (t1 t2 t3 : IVec S80 32) (mult : FVec Ideal S80 .f32) (h : Setup x1 x2 t1 t2 t3 mult) :
    refV x1 x2 t1 t2 t3 mult
      = transpose Cert.KernelIdeal.S4096x256x7 [1, 2, 0]
          (result (transpose Cert.KernelIdeal.S9x4096x256 [2, 0, 1] x1 Cert.KernelIdeal.Gen.transposes_S4096x256x9_S9x4096x256_2_0_1)
            (transpose Cert.KernelIdeal.S9x4096x256 [2, 0, 1] x2 Cert.KernelIdeal.Gen.transposes_S4096x256x9_S9x4096x256_2_0_1) mult)
          Cert.KernelIdeal.Gen.transposes_S7x4096x256_S4096x256x7_1_2_0 := by
  refine funext fun i => ?_
  obtain ⟨a, b, j, rfl⟩ : ∃ (a : Fin 4096) (b : Fin 256) (j : Fin 7), i = ix3 a b j := ⟨i 0, i 1, i 2, (ix3_eta i).symm⟩
  exact (reference_apply x1 x2 t1 t2 t3 mult h a b j).trans (kernel_apply x1 x2 mult a b j).symm

end Cert.Proof.Sc

end
-- ==== Proof.lean ====
/- The claims: the frames, the idealization, and that kernel and reference compute the same array. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal.Run
public import proofs.«01_k».proof.Proof.Gen.Pre_tables_of_setup
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel runs to its end, leaves its arguments unchanged and every semaphore at zero. -/
theorem frame_kernel : Cert.quiescent_Kernel := fun m ρ _ =>
  (θ_run Cert.KernelIdeal.defs _ _).mono (fun _ h => ⟨fun c => (h.1 c).2, h.2⟩) (Sc.run_main (F := Bits) m ρ)

/-- So does its idealization. -/
theorem frame_kernelIdeal : Cert.quiescent_KernelIdeal := fun m ρ _ =>
  (θ_run Cert.KernelIdeal.defs _ _).mono (fun _ h => ⟨fun c => (h.1 c).2, h.2⟩) (Sc.run_main (F := Ideal) m ρ)

/-- The reference runs to its end and leaves its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, where the arguments are as the precondition says, kernel and reference end with the same
    result. -/
theorem algebraic : Cert.algebraic_KernelIdeal_ReferenceIdeal_pre_tables_of_setup := fun m ρ m' ρ' hpre heq => by
  refine ⟨fun c => Sc.Rv (F := Ideal) m c, ?_, ?_⟩
  · exact (θ_run Cert.KernelIdeal.defs _ _).mono (fun _ h c => h.1 c) (Sc.run_main (F := Ideal) m ρ)
  · refine (θ_run Cert.ReferenceIdeal.defs _ _).mono (fun r h c => ⟨?_, (h c).2⟩) (Cert.ReferenceIdeal.Value.run (F := Ideal) m' ρ')
    obtain ⟨e0, e1, e2, e3, e4, e5⟩ := heq c
    refine (h c).1.trans ?_
    rw [e0, e1, e2, e3, e4, e5]
    exact Sc.value_eq _ _ _ _ _ _ (Sc.setup_of_pre _ _ _ _ _ _ (hpre c))

theorem claim : Cert.Claim :=
  ⟨Cert.Kernel.Gen.facts, Cert.KernelIdeal.Gen.facts, Cert.ReferenceIdeal.Gen.facts, Cert.Pre_tables_of_setup.Gen.facts,
    frame_kernel, frame_kernelIdeal, fun m ρ _ => frame_kernelIdeal m ρ (by trivial), frame_reference,
    fun m ρ _ => frame_reference m ρ (by trivial), trivial, algebraic⟩

end Cert.Proof

end
